-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norms_at_least_eps [hPre_norms_at_least_eps : Cert.Pre_norms_at_least_eps.Facts] (m : (ℓ : Loc Cert.KernelIdeal.nD Cert.KernelIdeal.τ Cert.KernelIdeal.sig) → Buf (Elt Ideal) ℓ) : Prop :=
  ∀ c : Dev Cert.KernelIdeal.nD,
    (Cert.Pre_norms_at_least_eps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_norms_at_least_eps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norms_at_least_eps [hPre_norms_at_least_eps : Cert.Pre_norms_at_least_eps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norms_at_least_eps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_norms_at_least_eps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_norms_at_least_eps [hKernelIdeal : Cert.KernelIdeal.Facts] [hPre_norms_at_least_eps : Cert.Pre_norms_at_least_eps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norms_at_least_eps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_norms_at_least_eps [hReferenceIdeal : Cert.ReferenceIdeal.Facts] [hPre_norms_at_least_eps : Cert.Pre_norms_at_least_eps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norms_at_least_eps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_norms_at_least_eps [hKernelIdeal : Cert.KernelIdeal.Facts] [hReferenceIdeal : Cert.ReferenceIdeal.Facts] [hPre_norms_at_least_eps : Cert.Pre_norms_at_least_eps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norms_at_least_eps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_norms_at_least_eps : Cert.Pre_norms_at_least_eps.Facts),
    quiescent_Kernel (hKernel := hKernel)
    ∧ quiescent_KernelIdeal (hKernelIdeal := hKernelIdeal)
    ∧ quiescent_KernelIdeal_pre_norms_at_least_eps (hKernelIdeal := hKernelIdeal) (hPre_norms_at_least_eps := hPre_norms_at_least_eps)
    ∧ quiescent_ReferenceIdeal (hReferenceIdeal := hReferenceIdeal)
    ∧ quiescent_ReferenceIdeal_pre_norms_at_least_eps (hReferenceIdeal := hReferenceIdeal) (hPre_norms_at_least_eps := hPre_norms_at_least_eps)
    ∧ preserves_Kernel_KernelIdeal
    ∧ algebraic_KernelIdeal_ReferenceIdeal_pre_norms_at_least_eps (hKernelIdeal := hKernelIdeal) (hReferenceIdeal := hReferenceIdeal) (hPre_norms_at_least_eps := hPre_norms_at_least_eps)
-- ==== Pre_norms_at_least_eps.lean ====
abbrev S64x640x21x21 : Shape := ⟨4, ![64, 640, 21, 21]⟩
abbrev S5x640x21x21 : Shape := ⟨4, ![5, 640, 21, 21]⟩
abbrev S_ : Shape := ⟨0, ![]⟩
abbrev S64x21x21 : Shape := ⟨3, ![64, 21, 21]⟩
abbrev S5x21x21 : Shape := ⟨3, ![5, 21, 21]⟩

class Facts : Prop where
  reducesTo_S64x640x21x21_S64x21x21_d1 : S64x640x21x21.ReducesTo [1] S64x21x21
  h_S_ : 0 < S_.numel
  reducesTo_S5x640x21x21_S5x21x21_d1 : S5x640x21x21.ReducesTo [1] S5x21x21
  bcast_S_S64x21x21 : S_.BroadcastsInDim S64x21x21 (![] : Fin 0 → Fin S64x21x21.rank)
  bcast_S_S5x21x21 : S_.BroadcastsInDim S5x21x21 (![] : Fin 0 → Fin S5x21x21.rank)

variable [Facts]

def fn {F : FTy → Type} [FloatOps F] (main_arg0 : FVec F S64x640x21x21 .f32) (main_arg1 : FVec F S5x640x21x21 .f32) : IVec S64x21x21 1 × IVec S5x21x21 1 :=
  let main_v0 : FVec F S64x640x21x21 .f32 := mulf main_arg0 main_arg0
  let main_cst : FVec F S_ .f32 := constant S_ .f32 0x00000000#32
  let main_v1 : FVec F S64x21x21 .f32 := (fun x v => Host.reduceAdd x v reducesTo_S64x640x21x21_S64x21x21_d1 h_S_) main_v0 main_cst
  let main_v2 : FVec F S64x21x21 .f32 := Host.sqrt main_v1
  let main_v3 : FVec F S5x640x21x21 .f32 := mulf main_arg1 main_arg1
  let main_cst_0 : FVec F S_ .f32 := constant S_ .f32 0x00000000#32
  let main_v4 : FVec F S5x21x21 .f32 := (fun x v => Host.reduceAdd x v reducesTo_S5x640x21x21_S5x21x21_d1 h_S_) main_v3 main_cst_0
  let main_v5 : FVec F S5x21x21 .f32 := Host.sqrt main_v4
  let main_cst_1 : FVec F S_ .f32 := constant S_ .f32 0x0DA24260#32
  let main_v6 : FVec F S64x21x21 .f32 := broadcastInDim S64x21x21 ![] bcast_S_S64x21x21 main_cst_1
  let main_v7 : IVec S64x21x21 1 := cmpf .oge main_v2 main_v6
  let main_cst_2 : FVec F S_ .f32 := constant S_ .f32 0x0DA24260#32
  let main_v8 : FVec F S5x21x21 .f32 := broadcastInDim S5x21x21 ![] bcast_S_S5x21x21 main_cst_2
  let main_v9 : IVec S5x21x21 1 := cmpf .oge main_v5 main_v8
  (main_v7, main_v9)
-- ==== Kernel.lean ====
abbrev S64x640x21x21 : Shape := ⟨4, ![64, 640, 21, 21]⟩
abbrev S5x640x21x21 : Shape := ⟨4, ![5, 640, 21, 21]⟩
abbrev S64x640x441 : Shape := ⟨3, ![64, 640, 441]⟩
abbrev S5x640x441 : Shape := ⟨3, ![5, 640, 441]⟩
abbrev S5x441 : Shape := ⟨2, ![5, 441]⟩
abbrev S5x1x441 : Shape := ⟨3, ![5, 1, 441]⟩
abbrev S1x640x441 : Shape := ⟨3, ![1, 640, 441]⟩
abbrev S640x441 : Shape := ⟨2, ![640, 441]⟩
abbrev S441 : Shape := ⟨1, ![441]⟩
abbrev S1x441 : Shape := ⟨2, ![1, 441]⟩
abbrev S25x441 : Shape := ⟨2, ![25, 441]⟩
abbrev S25 : Shape := ⟨1, ![25]⟩
abbrev S25x1 : Shape := ⟨2, ![25, 1]⟩
abbrev S1x5x441 : Shape := ⟨3, ![1, 5, 441]⟩
abbrev S1 : Shape := ⟨1, ![1]⟩
abbrev S1x1x1 : Shape := ⟨3, ![1, 1, 1]⟩
abbrev S64x1x441 : Shape := ⟨3, ![64, 1, 441]⟩
abbrev S8x640x441 : Shape := ⟨3, ![8, 640, 441]⟩
abbrev S8x1x441 : Shape := ⟨3, ![8, 1, 441]⟩
abbrev S1x64x441 : Shape := ⟨3, ![1, 64, 441]⟩
abbrev S64x441 : Shape := ⟨2, ![64, 441]⟩
abbrev S5 : Shape := ⟨1, ![5]⟩
abbrev S5x1 : Shape := ⟨2, ![5, 1]⟩
abbrev S1x1x441 : Shape := ⟨3, ![1, 1, 441]⟩
abbrev S1x1 : Shape := ⟨2, ![1, 1]⟩
abbrev S1x64x1x441 : Shape := ⟨4, ![1, 64, 1, 441]⟩
abbrev S1x1x1x1 : Shape := ⟨4, ![1, 1, 1, 1]⟩
abbrev S64x1x5 : Shape := ⟨3, ![64, 1, 5]⟩
abbrev S1x1x5 : Shape := ⟨3, ![1, 1, 5]⟩
abbrev S441x441 : Shape := ⟨2, ![441, 441]⟩
abbrev S441x1 : Shape := ⟨2, ![441, 1]⟩
abbrev S1x5 : Shape := ⟨2, ![1, 5]⟩
abbrev S64x5 : Shape := ⟨2, ![64, 5]⟩

abbrev nBuf : Space → Nat
  | .hbm => 11
  | .vmem => 20
  | .smem => 0
  | _ => 0

abbrev bufTy : (tb : Table) → Fin (tcTables nBuf tb) → BufTy
  | .hbm, ⟨0, _⟩ => ⟨S64x640x21x21, .f32⟩
  | .hbm, ⟨1, _⟩ => ⟨S5x640x21x21, .f32⟩
  | .hbm, ⟨2, _⟩ => ⟨S64x640x441, .f32⟩
  | .hbm, ⟨3, _⟩ => ⟨S5x640x441, .f32⟩
  | .hbm, ⟨4, _⟩ => ⟨S5x640x441, .f32⟩
  | .hbm, ⟨5, _⟩ => ⟨S5x640x441, .bf16⟩
  | .hbm, ⟨6, _⟩ => ⟨S64x1x441, .f32⟩
  | .hbm, ⟨7, _⟩ => ⟨S64x640x441, .bf16⟩
  | .hbm, ⟨8, _⟩ => ⟨S1x1, .f32⟩
  | .hbm, ⟨9, _⟩ => ⟨S64x1x5, .f32⟩
  | .hbm, ⟨10, _⟩ => ⟨S64x5, .f32⟩
  | .local _ .vmem, ⟨0, _⟩ => ⟨S5x640x441, .f32⟩
  | .local _ .vmem, ⟨1, _⟩ => ⟨S5x640x441, .f32⟩
  | .local _ .vmem, ⟨2, _⟩ => ⟨S5x640x441, .bf16⟩
  | .local _ .vmem, ⟨3, _⟩ => ⟨S8x640x441, .f32⟩
  | .local _ .vmem, ⟨4, _⟩ => ⟨S8x640x441, .f32⟩
  | .local _ .vmem, ⟨5, _⟩ => ⟨S5x640x441, .f32⟩
  | .local _ .vmem, ⟨6, _⟩ => ⟨S8x1x441, .f32⟩
  | .local _ .vmem, ⟨7, _⟩ => ⟨S8x1x441, .f32⟩
  | .local _ .vmem, ⟨8, _⟩ => ⟨S8x640x441, .bf16⟩
  | .local _ .vmem, ⟨9, _⟩ => ⟨S8x640x441, .bf16⟩
  | .local _ .vmem, ⟨10, _⟩ => ⟨S64x1x441, .f32⟩
  | .local _ .vmem, ⟨11, _⟩ => ⟨S1x1, .f32⟩
  | .local _ .vmem, ⟨12, _⟩ => ⟨S1x640x441, .bf16⟩
  | .local _ .vmem, ⟨13, _⟩ => ⟨S1x640x441, .bf16⟩
  | .local _ .vmem, ⟨14, _⟩ => ⟨S5x640x441, .bf16⟩
  | .local _ .vmem, ⟨15, _⟩ => ⟨S1x1x441, .f32⟩
  | .local _ .vmem, ⟨16, _⟩ => ⟨S1x1x441, .f32⟩
  | .local _ .vmem, ⟨17, _⟩ => ⟨S1x1, .f32⟩
  | .local _ .vmem, ⟨18, _⟩ => ⟨S1x1x5, .f32⟩
  | .local _ .vmem, ⟨19, _⟩ => ⟨S1x1x5, .f32⟩
  | _, _ => ⟨S64x640x21x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg1_0 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg4_0 : Ref sig .tc := ⟨.vmem, 18, rfl⟩
abbrev cc3_stg4_1 : Ref sig .tc := ⟨.vmem, 19, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem2_1 : DmaSem sig := 16
abbrev cc3_sem3_0 : DmaSem sig := 17
abbrev cc3_sem4_0 : DmaSem sig := 18
abbrev cc3_sem4_1 : DmaSem sig := 19

abbrev nD : Nat := 1
abbrev τ : Topo := Topo.v7x

variable {F : FTy → Type} [FloatOps F]

abbrev grid0 : Pipeline.Grid := .none

abbrev stage0_0 : Fin 1 → Memref sig .tc .vmem S5x640x441 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x640x441 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x640x441 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x640x441 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x640x441 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x1x441 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x640x441 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S64x1x441 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x640x441 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S5x640x441 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1x1x441 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x1x5 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== ReferenceIdeal.lean ====
abbrev S64x640x21x21 : Shape := ⟨4, ![64, 640, 21, 21]⟩
abbrev S5x640x21x21 : Shape := ⟨4, ![5, 640, 21, 21]⟩
abbrev S64x640x441 : Shape := ⟨3, ![64, 640, 441]⟩
abbrev S64x441x640 : Shape := ⟨3, ![64, 441, 640]⟩
abbrev S5x640x441 : Shape := ⟨3, ![5, 640, 441]⟩
abbrev S5x441x640 : Shape := ⟨3, ![5, 441, 640]⟩
abbrev S_ : Shape := ⟨0, ![]⟩
abbrev S64x441 : Shape := ⟨2, ![64, 441]⟩
abbrev S64x441x1 : Shape := ⟨3, ![64, 441, 1]⟩
abbrev S5x441 : Shape := ⟨2, ![5, 441]⟩
abbrev S5x441x1 : Shape := ⟨3, ![5, 441, 1]⟩
abbrev S5x1x441x640 : Shape := ⟨4, ![5, 1, 441, 640]⟩
abbrev S1x5x441x640 : Shape := ⟨4, ![1, 5, 441, 640]⟩
abbrev S5x5x441x640 : Shape := ⟨4, ![5, 5, 441, 640]⟩
abbrev S5x5x441 : Shape := ⟨3, ![5, 5, 441]⟩
abbrev S5x1x441 : Shape := ⟨3, ![5, 1, 441]⟩
abbrev S1x5x441 : Shape := ⟨3, ![1, 5, 441]⟩
abbrev S5x5 : Shape := ⟨2, ![5, 5]⟩
abbrev S5x5x1 : Shape := ⟨3, ![5, 5, 1]⟩
abbrev S1x1 : Shape := ⟨2, ![1, 1]⟩
abbrev S64x1x441x640 : Shape := ⟨4, ![64, 1, 441, 640]⟩
abbrev S64x5x441x640 : Shape := ⟨4, ![64, 5, 441, 640]⟩
abbrev S64x5x441 : Shape := ⟨3, ![64, 5, 441]⟩
abbrev S64x1x441 : Shape := ⟨3, ![64, 1, 441]⟩
abbrev S64x5 : Shape := ⟨2, ![64, 5]⟩
abbrev S64x5x1 : Shape := ⟨3, ![64, 5, 1]⟩
abbrev S64x441x5x441 : Shape := ⟨4, ![64, 441, 5, 441]⟩
abbrev S64x5x441x441 : Shape := ⟨4, ![64, 5, 441, 441]⟩
abbrev S64x5x441x3 : Shape := ⟨4, ![64, 5, 441, 3]⟩

abbrev nBuf : Space → Nat
  | .hbm => 193
  | .vmem => 0
  | .smem => 0
  | _ => 0

abbrev hbmTy0_0 (i : Nat) : BufTy := match i % 128 with
  | 0 => ⟨S64x640x21x21, .f32⟩
  | 1 => ⟨S5x640x21x21, .f32⟩
  | 2 => ⟨S64x640x441, .f32⟩
  | 3 => ⟨S64x441x640, .f32⟩
  | 4 => ⟨S5x640x441, .f32⟩
  | 5 => ⟨S5x441x640, .f32⟩
  | 6 => ⟨S64x441x640, .f32⟩
  | 7 => ⟨S_, .f32⟩
  | 8 => ⟨S64x441, .f32⟩
  | 9 => ⟨S64x441x1, .f32⟩
  | 10 => ⟨S64x441x1, .f32⟩
  | 11 => ⟨S64x441x640, .f32⟩
  | 12 => ⟨S64x441x640, .f32⟩
  | 13 => ⟨S5x441x640, .f32⟩
  | 14 => ⟨S_, .f32⟩
  | 15 => ⟨S5x441, .f32⟩
  | 16 => ⟨S5x441x1, .f32⟩
  | 17 => ⟨S5x441x1, .f32⟩
  | 18 => ⟨S5x441x640, .f32⟩
  | 19 => ⟨S5x441x640, .f32⟩
  | 20 => ⟨S5x1x441x640, .f32⟩
  | 21 => ⟨S_, .f32⟩
  | 22 => ⟨S5x441x640, .f32⟩
  | 23 => ⟨S_, .f32⟩
  | 24 => ⟨S5x441x640, .f32⟩
  | 25 => ⟨S5x441x640, .f32⟩
  | 26 => ⟨S5x1x441x640, .f32⟩
  | 27 => ⟨S1x5x441x640, .f32⟩
  | 28 => ⟨S5x5x441x640, .f32⟩
  | 29 => ⟨S5x5x441x640, .f32⟩
  | 30 => ⟨S5x5x441x640, .f32⟩
  | 31 => ⟨S_, .f32⟩
  | 32 => ⟨S5x5x441, .f32⟩
  | 33 => ⟨S5x1x441x640, .f32⟩
  | 34 => ⟨S_, .f32⟩
  | 35 => ⟨S5x1x441, .f32⟩
  | 36 => ⟨S5x1x441, .f32⟩
  | 37 => ⟨S5x441x640, .f32⟩
  | 38 => ⟨S_, .f32⟩
  | 39 => ⟨S5x441, .f32⟩
  | 40 => ⟨S5x441, .f32⟩
  | 41 => ⟨S1x5x441, .f32⟩
  | 42 => ⟨S5x5x441, .f32⟩
  | 43 => ⟨S5x5x441, .f32⟩
  | 44 => ⟨S5x5x441, .f32⟩
  | 45 => ⟨S_, .f32⟩
  | 46 => ⟨S5x5x441, .f32⟩
  | 47 => ⟨S5x5x441, .f32⟩
  | 48 => ⟨S5x5x441, .f32⟩
  | 49 => ⟨S_, .f32⟩
  | 50 => ⟨S5x5, .f32⟩
  | 51 => ⟨S_, .f32⟩
  | 52 => ⟨S5x5, .f32⟩
  | 53 => ⟨S5x5, .f32⟩
  | 54 => ⟨S5x5x1, .f32⟩
  | 55 => ⟨S5x5x441, .f32⟩
  | 56 => ⟨S5x5x441, .f32⟩
  | 57 => ⟨S5x5x441, .f32⟩
  | 58 => ⟨S_, .f32⟩
  | 59 => ⟨S5x5, .f32⟩
  | 60 => ⟨S5x5x1, .f32⟩
  | 61 => ⟨S5x5x441, .f32⟩
  | 62 => ⟨S5x5x441, .f32⟩
  | 63 => ⟨S_, .f32⟩
  | 64 => ⟨S5x441, .f32⟩
  | 65 => ⟨S_, .f32⟩
  | 66 => ⟨S5x441, .f32⟩
  | 67 => ⟨S5x441, .f32⟩
  | 68 => ⟨S_, .f32⟩
  | 69 => ⟨S_, .f32⟩
  | 70 => ⟨S_, .f32⟩
  | 71 => ⟨S_, .f32⟩
  | 72 => ⟨S_, .i32⟩
  | 73 => ⟨S_, .f32⟩
  | 74 => ⟨S_, .f32⟩
  | 75 => ⟨S1x1, .f32⟩
  | 76 => ⟨S_, .f32⟩
  | 77 => ⟨S1x1, .f32⟩
  | 78 => ⟨S1x1, .f32⟩
  | 79 => ⟨S5x441, .f32⟩
  | 80 => ⟨S5x441, .f32⟩
  | 81 => ⟨S5x441, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .i1⟩
  | 90 => ⟨S_, .f32⟩
  | 91 => ⟨S_, .f32⟩
  | 92 => ⟨S_, .f32⟩
  | 93 => ⟨S_, .f32⟩
  | 94 => ⟨S_, .f32⟩
  | 95 => ⟨S5x441, .f32⟩
  | 96 => ⟨S5x441, .i1⟩
  | 97 => ⟨S5x441x1, .i1⟩
  | 98 => ⟨S5x441x1, .f32⟩
  | 99 => ⟨S5x441x640, .f32⟩
  | 100 => ⟨S5x441x640, .f32⟩
  | 101 => ⟨S5x1x441x640, .f32⟩
  | 102 => ⟨S_, .f32⟩
  | 103 => ⟨S5x441x640, .f32⟩
  | 104 => ⟨S_, .f32⟩
  | 105 => ⟨S5x441x640, .f32⟩
  | 106 => ⟨S5x441x640, .f32⟩
  | 107 => ⟨S64x1x441x640, .f32⟩
  | 108 => ⟨S1x5x441x640, .f32⟩
  | 109 => ⟨S64x5x441x640, .f32⟩
  | 110 => ⟨S64x5x441x640, .f32⟩
  | 111 => ⟨S64x5x441x640, .f32⟩
  | 112 => ⟨S_, .f32⟩
  | 113 => ⟨S64x5x441, .f32⟩
  | 114 => ⟨S64x1x441x640, .f32⟩
  | 115 => ⟨S_, .f32⟩
  | 116 => ⟨S64x1x441, .f32⟩
  | 117 => ⟨S64x1x441, .f32⟩
  | 118 => ⟨S5x441x640, .f32⟩
  | 119 => ⟨S_, .f32⟩
  | 120 => ⟨S5x441, .f32⟩
  | 121 => ⟨S5x441, .f32⟩
  | 122 => ⟨S1x5x441, .f32⟩
  | 123 => ⟨S64x5x441, .f32⟩
  | 124 => ⟨S64x5x441, .f32⟩
  | 125 => ⟨S64x5x441, .f32⟩
  | 126 => ⟨S_, .f32⟩
  | 127 => ⟨S64x5x441, .f32⟩
  | _ => ⟨S64x640x21x21, .f32⟩

abbrev hbmTy0_1 (i : Nat) : BufTy := match i % 128 with
  | 0 => ⟨S64x5x441, .f32⟩
  | 1 => ⟨S64x5x441, .f32⟩
  | 2 => ⟨S_, .f32⟩
  | 3 => ⟨S64x5, .f32⟩
  | 4 => ⟨S_, .f32⟩
  | 5 => ⟨S64x5, .f32⟩
  | 6 => ⟨S64x5, .f32⟩
  | 7 => ⟨S64x5x1, .f32⟩
  | 8 => ⟨S64x5x441, .f32⟩
  | 9 => ⟨S64x5x441, .f32⟩
  | 10 => ⟨S64x5x441, .f32⟩
  | 11 => ⟨S_, .f32⟩
  | 12 => ⟨S64x5, .f32⟩
  | 13 => ⟨S64x5x1, .f32⟩
  | 14 => ⟨S64x5x441, .f32⟩
  | 15 => ⟨S64x5x441, .f32⟩
  | 16 => ⟨S_, .f32⟩
  | 17 => ⟨S64x441, .f32⟩
  | 18 => ⟨S_, .f32⟩
  | 19 => ⟨S64x441, .f32⟩
  | 20 => ⟨S64x441, .f32⟩
  | 21 => ⟨S_, .f32⟩
  | 22 => ⟨S_, .f32⟩
  | 23 => ⟨S_, .f32⟩
  | 24 => ⟨S_, .f32⟩
  | 25 => ⟨S_, .i32⟩
  | 26 => ⟨S_, .f32⟩
  | 27 => ⟨S_, .f32⟩
  | 28 => ⟨S1x1, .f32⟩
  | 29 => ⟨S_, .f32⟩
  | 30 => ⟨S1x1, .f32⟩
  | 31 => ⟨S1x1, .f32⟩
  | 32 => ⟨S64x441, .f32⟩
  | 33 => ⟨S64x441, .f32⟩
  | 34 => ⟨S64x441, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .i1⟩
  | 43 => ⟨S_, .f32⟩
  | 44 => ⟨S_, .f32⟩
  | 45 => ⟨S_, .f32⟩
  | 46 => ⟨S_, .f32⟩
  | 47 => ⟨S_, .f32⟩
  | 48 => ⟨S64x441, .f32⟩
  | 49 => ⟨S64x441, .i1⟩
  | 50 => ⟨S64x441x1, .i1⟩
  | 51 => ⟨S64x441x1, .f32⟩
  | 52 => ⟨S64x441x640, .f32⟩
  | 53 => ⟨S64x441x640, .f32⟩
  | 54 => ⟨S64x1x441x640, .f32⟩
  | 55 => ⟨S5x640x441, .f32⟩
  | 56 => ⟨S64x441x640, .f32⟩
  | 57 => ⟨S64x441x5x441, .f32⟩
  | 58 => ⟨S64x5x441x441, .f32⟩
  | 59 => ⟨S64x5x441x3, .f32⟩
  | 60 => ⟨S64x5x441x3, .i32⟩
  | 61 => ⟨S_, .f32⟩
  | 62 => ⟨S64x5x441, .f32⟩
  | 63 => ⟨S_, .f32⟩
  | 64 => ⟨S64x5, .f32⟩
  | _ => ⟨S64x640x21x21, .f32⟩

abbrev hbmTy (i : Nat) : BufTy := match i / 128 with
  | 0 => hbmTy0_0 i
  | 1 => hbmTy0_1 i
  | _ => ⟨S64x640x21x21, .f32⟩

abbrev bufTy : (tb : Table) → Fin (tcTables nBuf tb) → BufTy
  | .hbm, ⟨i, _⟩ => hbmTy i
  | _, _ => ⟨S64x640x21x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_c : Ref sig .tc := ⟨.hbm, 72, rfl⟩
abbrev main_call2_call0_cst : Ref sig .tc := ⟨.hbm, 73, rfl⟩
abbrev main_call2_call0_v0 : Ref sig .tc := ⟨.hbm, 74, rfl⟩
abbrev main_call2_call0_v1 : Ref sig .tc := ⟨.hbm, 75, rfl⟩
abbrev main_call2_call0_cst_0 : Ref sig .tc := ⟨.hbm, 76, rfl⟩
abbrev main_call2_call0_v2 : Ref sig .tc := ⟨.hbm, 77, rfl⟩
abbrev main_call2_call0_v3 : Ref sig .tc := ⟨.hbm, 78, rfl⟩
abbrev main_call2_call0_v4 : Ref sig .tc := ⟨.hbm, 79, rfl⟩
abbrev main_call2_call0_v5 : Ref sig .tc := ⟨.hbm, 80, rfl⟩
abbrev main_call2_call0_v6 : Ref sig .tc := ⟨.hbm, 81, rfl⟩
abbrev main_call2_call0_v7 : Ref sig .tc := ⟨.hbm, 82, rfl⟩
abbrev main_call2_call0_cst_1 : Ref sig .tc := ⟨.hbm, 83, rfl⟩
abbrev main_call2_call0_v8 : Ref sig .tc := ⟨.hbm, 84, rfl⟩
abbrev main_call2_call0_cst_2 : Ref sig .tc := ⟨.hbm, 85, rfl⟩
abbrev main_call2_call0_v9 : Ref sig .tc := ⟨.hbm, 86, rfl⟩
abbrev main_call2_call0_v10 : Ref sig .tc := ⟨.hbm, 87, rfl⟩
abbrev main_call2_call0_cst_3 : Ref sig .tc := ⟨.hbm, 88, rfl⟩
abbrev main_call2_call0_v11 : Ref sig .tc := ⟨.hbm, 89, rfl⟩
abbrev main_call2_call0_cst_4 : Ref sig .tc := ⟨.hbm, 90, rfl⟩
abbrev main_call2_call0_call0_v0 : Ref sig .tc := ⟨.hbm, 91, rfl⟩
abbrev main_call2_v0 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_12 : Ref sig .tc := ⟨.hbm, 102, rfl⟩
abbrev main_v58 : Ref sig .tc := ⟨.hbm, 103, rfl⟩
abbrev main_cst_13 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_cst_14 : Ref sig .tc := ⟨.hbm, 112, rfl⟩
abbrev main_v66 : Ref sig .tc := ⟨.hbm, 113, rfl⟩
abbrev main_v67 : Ref sig .tc := ⟨.hbm, 114, rfl⟩
abbrev main_cst_15 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_16 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_cst_17 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_18 : Ref sig .tc := ⟨.hbm, 130, rfl⟩
abbrev main_v80 : Ref sig .tc := ⟨.hbm, 131, rfl⟩
abbrev main_cst_19 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_20 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_21 : Ref sig .tc := ⟨.hbm, 144, rfl⟩
abbrev main_v91 : Ref sig .tc := ⟨.hbm, 145, rfl⟩
abbrev main_cst_22 : Ref sig .tc := ⟨.hbm, 146, rfl⟩
abbrev main_v92 : Ref sig .tc := ⟨.hbm, 147, rfl⟩
abbrev main_v93 : Ref sig .tc := ⟨.hbm, 148, rfl⟩
abbrev main_cst_23 : Ref sig .tc := ⟨.hbm, 149, rfl⟩
abbrev main_v94 : Ref sig .tc := ⟨.hbm, 150, rfl⟩
abbrev main_cst_24 : Ref sig .tc := ⟨.hbm, 151, rfl⟩
abbrev main_v95 : Ref sig .tc := ⟨.hbm, 152, rfl⟩
abbrev main_c_25 : Ref sig .tc := ⟨.hbm, 153, rfl⟩
abbrev main_call3_call0_cst : Ref sig .tc := ⟨.hbm, 154, rfl⟩
abbrev main_call3_call0_v0 : Ref sig .tc := ⟨.hbm, 155, rfl⟩
abbrev main_call3_call0_v1 : Ref sig .tc := ⟨.hbm, 156, rfl⟩
abbrev main_call3_call0_cst_0 : Ref sig .tc := ⟨.hbm, 157, rfl⟩
abbrev main_call3_call0_v2 : Ref sig .tc := ⟨.hbm, 158, rfl⟩
abbrev main_call3_call0_v3 : Ref sig .tc := ⟨.hbm, 159, rfl⟩
abbrev main_call3_call0_v4 : Ref sig .tc := ⟨.hbm, 160, rfl⟩
abbrev main_call3_call0_v5 : Ref sig .tc := ⟨.hbm, 161, rfl⟩
abbrev main_call3_call0_v6 : Ref sig .tc := ⟨.hbm, 162, rfl⟩
abbrev main_call3_call0_v7 : Ref sig .tc := ⟨.hbm, 163, rfl⟩
abbrev main_call3_call0_cst_1 : Ref sig .tc := ⟨.hbm, 164, rfl⟩
abbrev main_call3_call0_v8 : Ref sig .tc := ⟨.hbm, 165, rfl⟩
abbrev main_call3_call0_cst_2 : Ref sig .tc := ⟨.hbm, 166, rfl⟩
abbrev main_call3_call0_v9 : Ref sig .tc := ⟨.hbm, 167, rfl⟩
abbrev main_call3_call0_v10 : Ref sig .tc := ⟨.hbm, 168, rfl⟩
abbrev main_call3_call0_cst_3 : Ref sig .tc := ⟨.hbm, 169, rfl⟩
abbrev main_call3_call0_v11 : Ref sig .tc := ⟨.hbm, 170, rfl⟩
abbrev main_call3_call0_cst_4 : Ref sig .tc := ⟨.hbm, 171, rfl⟩
abbrev main_call3_call0_call0_v0 : Ref sig .tc := ⟨.hbm, 172, rfl⟩
abbrev main_call3_v0 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_values : Ref sig .tc := ⟨.hbm, 187, rfl⟩
abbrev main_indices : Ref sig .tc := ⟨.hbm, 188, rfl⟩
abbrev main_cst_26 : Ref sig .tc := ⟨.hbm, 189, rfl⟩
abbrev main_v109 : Ref sig .tc := ⟨.hbm, 190, rfl⟩
abbrev main_cst_27 : Ref sig .tc := ⟨.hbm, 191, rfl⟩
abbrev main_v110 : Ref sig .tc := ⟨.hbm, 192, rfl⟩

abbrev nD : Nat := 1
abbrev τ : Topo := Topo.v7x

variable {F : FTy → Type} [FloatOps F]
-- ==== Proof.Spec.lean ====
/- The mathematics both programs compute, written once over plain coordinates: unit descriptors, the softmax over the
   positions of a row, the average over the five classes, the adaptive threshold and the masks. -/
module

public import Idealize.ShloMosaic.Lib.Pointwise
public import Idealize.ShloMosaic.PureOps
public import Idealize.ShloMosaic.Init

@[expose] public section

noncomputable section

namespace Cert.Dn4

open Idealize.ShloMosaic

/-- The sum of the squares of a descriptor's 640 channels. -/
def ssq (x : Fin 640 → EReal) : EReal := ∑ c, x c * x c

/-- The norm of a descriptor. -/
def nrm (x : Fin 640 → EReal) : EReal := Ideal.sqrt (ssq x)

/-- A descriptor divided by its norm. -/
def unitVec (x : Fin 640 → EReal) (c : Fin 640) : EReal := Ideal.div (x c) (nrm x)

/-- The inner product of two descriptors. -/
def dot (x y : Fin 640 → EReal) : EReal := ∑ c, x c * y c

/-- The largest of a row of 441 numbers. -/
def rowMax (s : Fin 441 → EReal) : EReal := Finset.univ.fold max ⊥ s

/-- The softmax of a row of 441 numbers. -/
def softmax (s : Fin 441 → EReal) (p : Fin 441) : EReal :=
  Ideal.div (Ideal.exp (s p - rowMax s)) (∑ k, Ideal.exp (s k - rowMax s))

/-- The average of the softmax of five rows. -/
def agg (s : Fin 5 → Fin 441 → EReal) (p : Fin 441) : EReal :=
  Ideal.div (∑ w, softmax (s w) p) (Ideal.ofBits .f32 0x40A00000#32)

/-- The average of a table over a count `n`. -/
def tableMean {m : ℕ} (n : EReal) (a : Fin m → Fin 441 → EReal) : EReal := Ideal.div (∑ i, ∑ p, a i p) n

/-- The threshold: the average less the standard deviation (the squares' sum over `n1`). -/
def thr {m : ℕ} (n n1 : EReal) (a : Fin m → Fin 441 → EReal) : EReal :=
  tableMean n a - Ideal.sqrt (Ideal.div (∑ i, ∑ p, (a i p - tableMean n a) * (a i p - tableMean n a)) n1)

/-- One where a number is above the threshold, zero elsewhere. -/
def mask (a t : EReal) : EReal := if t < a then 1 else 0

/-- The masked support descriptors. -/
def support (xs : Fin 5 → Fin 640 → Fin 441 → EReal) (w : Fin 5) (c : Fin 640) (p : Fin 441) : EReal :=
  let ns := fun (w : Fin 5) (p : Fin 441) => unitVec (fun c => xs w c p)
  let a := fun i => agg fun j p => dot (ns i p) (ns j p)
  ns w p c * mask (a w p) (thr (Ideal.ofBits .f32 0x4509D000#32) (Ideal.ofBits .f32 0x4509C000#32) a)

/-- The query's average softmax against the masked support. -/
def queryAgg (xq : Fin 640 → Fin 441 → EReal) (ms : Fin 5 → Fin 640 → Fin 441 → EReal) : Fin 441 → EReal :=
  agg fun w p => dot (unitVec fun c => xq c p) (fun c => ms w c p)

/-- The masked query descriptors. -/
def maskedQuery (xq : Fin 64 → Fin 640 → Fin 441 → EReal) (ms : Fin 5 → Fin 640 → Fin 441 → EReal)
    (q : Fin 64) (c : Fin 640) (p : Fin 441) : EReal :=
  unitVec (fun c => xq q c p) c *
    mask (queryAgg (xq q) ms p)
      (thr (Ideal.ofBits .f32 0x46DC8000#32) (Ideal.ofBits .f32 0x46DC7E00#32) fun q => queryAgg (xq q) ms)

/-- The inner products of the masked query descriptors with the masked support descriptors. -/
def inner (xq : Fin 64 → Fin 640 → Fin 441 → EReal) (xs : Fin 5 → Fin 640 → Fin 441 → EReal)
    (q : Fin 64) (w : Fin 5) (p r : Fin 441) : EReal :=
  ∑ c, maskedQuery xq (support xs) q c p * support xs w c r

end Cert.Dn4

end
-- ==== Proof.Consts.lean ====
/- The reals that the two programs' printed constants stand for. -/
module

public import Idealize.ShloMosaic.Lib.Pointwise
public import Idealize.ShloMosaic.Lib.IdealHost

@[expose] public section

noncomputable section

namespace Cert.Dn4

open Idealize.ShloMosaic

theorem bits_neg_inf : Ideal.ofBits .f32 0xFF800000#32 = ⊥ := by
  simp [Ideal.ofBits, Ideal.ieee]

theorem bits_two_two_zero_five : Ideal.ofBits .f32 0x4509D000#32 = ((2205 : ℝ) : EReal) := by
  simp [Ideal.ofBits, Ideal.ieee, -EReal.coe_mul]; norm_num

theorem bits_two_two_zero_four : Ideal.ofBits .f32 0x4509C000#32 = ((2204 : ℝ) : EReal) := by
  simp [Ideal.ofBits, Ideal.ieee, -EReal.coe_mul]; norm_num

theorem bits_queries : Ideal.ofBits .f32 0x46DC8000#32 = ((28224 : ℝ) : EReal) := by
  simp [Ideal.ofBits, Ideal.ieee, -EReal.coe_mul]; norm_num

theorem bits_queries_less_one : Ideal.ofBits .f32 0x46DC7E00#32 = ((28223 : ℝ) : EReal) := by
  simp [Ideal.ofBits, Ideal.ieee, -EReal.coe_mul]; norm_num

theorem bits_three : Ideal.ofBits .f32 0x40400000#32 = ((3 : ℝ) : EReal) := by
  simp [Ideal.ofBits, Ideal.ieee, -EReal.coe_mul]; norm_num

/-- The stand-in for a removed entry. -/
theorem bits_removed : Ideal.ofBits .f32 0xCE6E6B28#32 = ((-1000000000 : ℝ) : EReal) := by
  simp [Ideal.ofBits, Ideal.ieee, -EReal.coe_mul, -EReal.coe_neg]; norm_num

/-- The least norm admitted is a positive real. -/
theorem bits_eps : ∃ e : ℝ, 0 < e ∧ Ideal.ofBits .f32 0x0DA24260#32 = (e : EReal) := by
  refine ⟨(10633824 : ℝ) * (2 : ℝ) ^ (-123 : ℤ), by positivity, ?_⟩
  simp [Ideal.ofBits, Ideal.ieee, -EReal.coe_mul]

/-- The reference's floor under a product of two norms lies between zero and one. -/
theorem bits_floor : ∃ e : ℝ, 0 < e ∧ e ≤ 1 ∧ Ideal.ofBits .f32 0x322BCC77#32 = (e : EReal) := by
  refine ⟨(11258999 : ℝ) * (2 : ℝ) ^ (-50 : ℤ), by positivity, by norm_num, ?_⟩
  simp [Ideal.ofBits, Ideal.ieee, -EReal.coe_mul]

end Cert.Dn4

end
-- ==== Proof.Unit.lean ====
/- A descriptor whose norm is not too small, divided by its norm, is a vector of reals of length one — or the zero
   vector, where an entry was infinite. What follows for the two ways a cosine is computed. -/
module

public import proofs.«01_k».proof.Proof.Spec
public import proofs.«01_k».proof.Proof.Consts

@[expose] public section

noncomputable section

namespace Cert.Dn4

open Idealize.ShloMosaic

/-- The norm is at least the kernel's floor. -/
def Long (x : Fin 640 → EReal) : Prop := Ideal.ofBits .f32 0x0DA24260#32 ≤ nrm x

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem mul_self_nonneg' (x : EReal) : 0 ≤ x * x := by
  induction x with
  | bot => simp [EReal.bot_mul_bot]
  | top => simp [EReal.top_mul_top]
  | coe r => rw [← EReal.coe_mul]; exact EReal.coe_nonneg.mpr (mul_self_nonneg r)

/-- An infinite entry makes the sum of the squares infinite. -/
theorem ssq_top (x : Fin 640 → EReal) (c : Fin 640) (h : x c * x c = ⊤) : ssq x = ⊤ := by
  unfold ssq
  exact top_le_iff.mp (h ▸ Finset.single_le_sum (f := fun c => x c * x c) (fun i _ => mul_self_nonneg' _) (Finset.mem_univ c))

/-- A vector of reals of length one, or zero. -/
def IsUnit (y : Fin 640 → EReal) : Prop :=
  ∃ u : Fin 640 → ℝ, (∀ c, y c = (u c : EReal)) ∧ ((∑ c, u c * u c) = 1 ∨ ∀ c, u c = 0)

theorem isUnit_unitVec {x : Fin 640 → EReal} (h : Long x) : IsUnit (unitVec x) := by
  obtain ⟨e, he, hbits⟩ := bits_eps
  unfold Long at h
  rw [hbits] at h
  by_cases hfin : ∀ c, ∃ r : ℝ, x c = (r : EReal)
  · choose r hr using hfin
    have hs : ssq x = ((∑ c, r c * r c : ℝ) : EReal) := by
      unfold ssq; rw [← coe_sum]; exact Finset.sum_congr rfl fun c _ => by rw [hr, EReal.coe_mul]
    have h0 : 0 ≤ ∑ c, r c * r c := Finset.sum_nonneg fun c _ => mul_self_nonneg _
    have hn : nrm x = (Real.sqrt (∑ c, r c * r c) : EReal) := by
      unfold nrm; rw [hs, Ideal.sqrt_coe, if_neg (not_lt.mpr h0)]
    rw [hn, EReal.coe_le_coe_iff] at h
    have hpos : 0 < Real.sqrt (∑ c, r c * r c) := lt_of_lt_of_le he h
    refine ⟨fun c => r c * (1 / Real.sqrt (∑ c, r c * r c)), fun c => ?_, Or.inl ?_⟩
    · unfold unitVec; rw [hn, Ideal.div_coe hpos.ne', hr, EReal.coe_mul]
    · have hsq := Real.mul_self_sqrt h0
      generalize Real.sqrt (∑ c, r c * r c) = n at *
      rw [show (∑ c, r c * (1 / n) * (r c * (1 / n))) = (∑ c, r c * r c) * (1 / (n * n)) from by
        rw [Finset.sum_mul]; exact Finset.sum_congr rfl fun c _ => by field_simp]
      rw [← hsq]
      field_simp
  · obtain ⟨c, hc⟩ := not_forall.mp hfin
    have ht : x c * x c = ⊤ := by
      induction hx : x c with
      | bot => exact EReal.bot_mul_bot
      | top => exact EReal.top_mul_top
      | coe r => exact absurd ⟨r, hx⟩ hc
    have hn : nrm x = ⊤ := by unfold nrm; rw [ssq_top x c ht]; rfl
    exact ⟨fun _ => 0, fun c => by unfold unitVec Ideal.div; rw [hn]; simp, Or.inr fun _ => rfl⟩

/-- Dividing by the norm and multiplying by the reciprocal of the floored norm are the same. -/
theorem nrm_floor {x : Fin 640 → EReal} (h : Long x) : max (nrm x) (Ideal.ofBits .f32 0x0DA24260#32) = nrm x :=
  max_eq_left h

theorem nrm_pos {x : Fin 640 → EReal} (h : Long x) : 0 < nrm x := by
  obtain ⟨e, he, hbits⟩ := bits_eps
  unfold Long at h
  rw [hbits] at h
  exact lt_of_lt_of_le (EReal.coe_pos.mpr he) h

theorem mul_recip {x : Fin 640 → EReal} (h : Long x) (y : EReal) : y * Ideal.div 1 (nrm x) = Ideal.div y (nrm x) := by
  unfold Ideal.div
  rw [if_neg (nrm_pos h).ne', if_neg (nrm_pos h).ne', one_mul]

/-- A masked vector of length one has length one or is zero. -/
theorem IsUnit.mask {y : Fin 640 → EReal} (h : IsUnit y) (a t : EReal) : IsUnit fun c => y c * mask a t := by
  obtain ⟨u, hu, h1⟩ := h
  unfold Dn4.mask
  split
  · exact ⟨u, fun c => (mul_one _).trans (hu c), h1⟩
  · exact ⟨fun _ => 0, fun c => by simp, Or.inr fun _ => rfl⟩

theorem IsUnit.sqrt_dot {y : Fin 640 → EReal} (h : IsUnit y) :
    (Ideal.sqrt (dot y y) = 1) ∨ (Ideal.sqrt (dot y y) = 0 ∧ ∀ c, y c = 0) := by
  obtain ⟨u, hu, h1⟩ := h
  have hd : dot y y = ((∑ c, u c * u c : ℝ) : EReal) := by
    unfold dot; rw [← coe_sum]; exact Finset.sum_congr rfl fun c _ => by rw [hu, EReal.coe_mul]
  rcases h1 with h1 | h1
  · left; rw [hd, h1, Ideal.sqrt_coe, if_neg (by norm_num), Real.sqrt_one]; rfl
  · right; rw [hd]; refine ⟨?_, by simp [h1, hu]⟩
    rw [Ideal.sqrt_coe]; simp [h1]

/-- The reference's cosine of two unit (or zero) vectors is their inner product. -/
theorem cosine {y z : Fin 640 → EReal} (hy : IsUnit y) (hz : IsUnit z) :
    Ideal.div (dot y z) (max (Ideal.sqrt (dot y y) * Ideal.sqrt (dot z z)) (Ideal.ofBits .f32 0x322BCC77#32)) = dot y z := by
  obtain ⟨e, he, he1, hbits⟩ := bits_floor
  rw [hbits]
  have hzero : dot y z = 0 → Ideal.div (dot y z) (max 0 (e : EReal)) = dot y z := by
    intro h
    rw [h, max_eq_right (EReal.coe_nonneg.mpr he.le), Ideal.div_coe he.ne', zero_mul]
  rcases hy.sqrt_dot with h1 | ⟨h1, h1'⟩
  · rcases hz.sqrt_dot with h2 | ⟨h2, h2'⟩
    · rw [h1, h2, mul_one, max_eq_left (by exact_mod_cast he1), show (1 : EReal) = ((1 : ℝ) : EReal) from rfl,
        Ideal.div_coe one_ne_zero]
      simp
    · rw [h2, mul_zero]; exact hzero (by unfold dot; simp [h2'])
  · rw [h1, zero_mul]; exact hzero (by unfold dot; simp [h1'])

theorem abs_le_one_of_sum {u : Fin 640 → ℝ} (h : (∑ c, u c * u c) = 1 ∨ ∀ c, u c = 0) (c : Fin 640) : |u c| ≤ 1 := by
  rcases h with h | h
  · have : u c * u c ≤ 1 := h ▸ Finset.single_le_sum (f := fun c => u c * u c) (fun i _ => mul_self_nonneg _) (Finset.mem_univ c)
    exact abs_le_one_iff_mul_self_le_one.mpr this
  · rw [h]; simp

/-- The inner product of two unit (or zero) vectors is a real, nowhere near the stand-in for a removed entry. -/
theorem IsUnit.dot_real {y z : Fin 640 → EReal} (hy : IsUnit y) (hz : IsUnit z) :
    ∃ r : ℝ, dot y z = (r : EReal) ∧ -640 ≤ r := by
  obtain ⟨u, hu, h1⟩ := hy
  obtain ⟨v, hv, h2⟩ := hz
  refine ⟨∑ c, u c * v c, ?_, ?_⟩
  · unfold dot; rw [← coe_sum]; exact Finset.sum_congr rfl fun c _ => by rw [hu, hv, EReal.coe_mul]
  · have : ∀ c, -1 ≤ u c * v c := fun c => by
      have ha := abs_le_one_of_sum h1 c
      have hb := abs_le_one_of_sum h2 c
      have : |u c * v c| ≤ 1 := by rw [abs_mul]; exact mul_le_one₀ ha (abs_nonneg _) hb
      exact (abs_le.mp this).1
    calc (-640 : ℝ) = ∑ _c : Fin 640, (-1 : ℝ) := by simp
      _ ≤ _ := Finset.sum_le_sum fun c _ => this c

end Cert.Dn4

end
-- ==== Proof.Reference.lean ====
/- What the reference's operations hold at an index, in the words of Spec.lean, where every descriptor's norm is at least
   the floor. -/
module

public import proofs.«01_k».proof.Proof.Unit
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.Dn4.Ref

open Cert.ReferenceIdeal Cert.ReferenceIdeal.Gen Cert.ReferenceIdeal.Value
open Idealize.ShloMosaic Idealize.ShloMosaic.TcCoe Idealize.SL.Sem Idealize.ShloMosaic.StableHlo

variable (V0 : Valuation τ sig (Elt Ideal))

theorem sum_one (f : Fin 1 → EReal) : (∑ x, f x) = f 0 := by simp

theorem div_one' (x : EReal) : Ideal.div x 1 = x := by
  rw [show (1 : EReal) = ((1 : ℝ) : EReal) from rfl, Ideal.div_coe one_ne_zero]; simp

/-- The mask's bit as a float. -/
theorem mask_bit (a t : EReal) :
    FloatOps.uitofp (F := Ideal) FTy.f32 (BitVec.ofBool (decide (t < a))) = mask a t := by
  unfold mask
  rw [show FloatOps.uitofp (F := Ideal) FTy.f32 (BitVec.ofBool (decide (t < a)))
    = (((BitVec.ofBool (decide (t < a))).toNat : ℝ) : EReal) from rfl]
  by_cases h : t < a <;> simp [h]

/-- The query images over channel and position. -/
def xq (q : Fin 64) (c : Fin 640) (p : Fin 441) : EReal :=
  (show FVec Ideal S64x640x21x21 .f32 from V0 (Proc.devRef .tc main_arg0)) (ix4 q c ⟨p.val / 21, by omega⟩ ⟨p.val % 21, by omega⟩)

/-- The support images over channel and position. -/
def xs (w : Fin 5) (c : Fin 640) (p : Fin 441) : EReal :=
  (show FVec Ideal S5x640x21x21 .f32 from V0 (Proc.devRef .tc main_arg1)) (ix4 w c ⟨p.val / 21, by omega⟩ ⟨p.val % 21, by omega⟩)

theorem v1_at (q : Fin 64) (p : Fin 441) (c : Fin 640) : res_main_v1 V0 (ix3 q p c) = xq V0 q c p := by
  unfold res_main_v1
  clean_types
  pointwise
  rfl

theorem v3_at (w : Fin 5) (p : Fin 441) (c : Fin 640) : res_main_v3 V0 (ix3 w p c) = xs V0 w c p := by
  unfold res_main_v3
  clean_types
  pointwise
  rfl

theorem v6_at (q : Fin 64) (p : Fin 441) (c : Fin 640) :
    res_main_v6 V0 (ix3 q p c) = unitVec (fun c => xq V0 q c p) c := by
  unfold res_main_v6
  clean_types
  pointwise
  simp only [v1_at]
  rfl

theorem v9_at (q : Fin 5) (p : Fin 441) (c : Fin 640) :
    res_main_v9 V0 (ix3 q p c) = unitVec (fun c => xs V0 q c p) c := by
  unfold res_main_v9
  clean_types
  pointwise
  simp only [v3_at]
  rfl

theorem v13_at (q : Fin 5) (p : Fin 441) (c : Fin 640) :
    res_main_v13 V0 (ix3 q p c) = unitVec (fun c => xs V0 q c p) c := by
  unfold res_main_v13
  clean_types
  pointwise
  simp only [v9_at, sum_one, div_one']

theorem v14_at (q : Fin 5) (p : Fin 441) (c : Fin 640) :
    res_main_v14 V0 (ix4 q 0 p c) = unitVec (fun c => xs V0 q c p) c := by
  unfold res_main_v14
  clean_types
  pointwise
  simp only [v9_at]

variable (hs : ∀ w p, Long fun c => xs V0 w c p) (hq : ∀ q p, Long fun c => xq V0 q c p)

/-- The support's inner products, position by position. -/
def supportSim (i j : Fin 5) (p : Fin 441) : EReal := dot (unitVec fun c => xs V0 i c p) (unitVec fun c => xs V0 j c p)

include hs in
theorem v32_at (i j : Fin 5) (p : Fin 441) : res_main_v32 V0 (ix3 i j p) = supportSim V0 i j p := by
  unfold res_main_v32
  clean_types
  pointwise
  simp only [v14_at, v13_at]
  exact cosine (isUnit_unitVec (hs i p)) (isUnit_unitVec (hs j p))

include hs in
theorem v39_at (i j : Fin 5) (p : Fin 441) :
    res_main_v39 V0 (ix3 i j p) = Ideal.exp (supportSim V0 i j p - rowMax (supportSim V0 i j)) := by
  unfold res_main_v39
  clean_types
  pointwise
  simp only [v32_at V0 hs, bits_neg_inf, bot_le, max_eq_right]
  rfl

include hs in
theorem v46_at (i : Fin 5) (p : Fin 441) : res_main_v46 V0 (ix2 i p) = agg (supportSim V0 i) p := by
  unfold res_main_v46
  clean_types
  pointwise
  simp only [v39_at V0 hs]
  rfl

theorem v8_at : res_main_call2_call0_v8 V0 ix0 = Ideal.ofBits .f32 0x4509C000#32 := by
  unfold res_main_call2_call0_v8
  clean_types
  pointwise
  rw [bits_two_two_zero_five, bits_two_two_zero_four]
  rw [show FloatOps.sitofp (F := Ideal) FTy.f32 1#32 = ((1 : ℝ) : EReal) from by
    show (((1#32 : BitVec 32).toInt : ℝ) : EReal) = _
    norm_num]
  rw [← EReal.coe_sub]; norm_num

include hs in
theorem v5_at (i : Fin 5) (p : Fin 441) : res_main_call2_call0_v5 V0 (ix2 i p)
    = agg (supportSim V0 i) p - tableMean (Ideal.ofBits .f32 0x4509D000#32) (fun i => agg (supportSim V0 i)) := by
  unfold res_main_call2_call0_v5
  clean_types
  pointwise
  simp only [v46_at V0 hs]
  rfl

include hs in
theorem v56_at (w : Fin 5) (p : Fin 441) (c : Fin 640) : res_main_v56 V0 (ix3 w p c) = support (xs V0) w c p := by
  unfold res_main_v56
  clean_types
  pointwise
  rw [if_pos (by rw [v8_at, bits_two_two_zero_four]; exact EReal.coe_pos.mpr (by norm_num))]
  simp only [v46_at V0 hs, v5_at V0 hs, v8_at, mask_bit, v9_at]
  rfl

include hs in
theorem isUnit_support (w : Fin 5) (p : Fin 441) : IsUnit fun c => support (xs V0) w c p :=
  (isUnit_unitVec (hs w p)).mask _ _

include hs in
theorem v60_at (w : Fin 5) (p : Fin 441) (c : Fin 640) : res_main_v60 V0 (ix3 w p c) = support (xs V0) w c p := by
  unfold res_main_v60
  clean_types
  pointwise
  simp only [v56_at V0 hs, sum_one, div_one']

theorem v61_at (q : Fin 64) (p : Fin 441) (c : Fin 640) :
    res_main_v61 V0 (ix4 q 0 p c) = unitVec (fun c => xq V0 q c p) c := by
  unfold res_main_v61
  clean_types
  pointwise
  simp only [v6_at]

/-- The queries' inner products with the masked support, position by position. -/
def querySim (q : Fin 64) (w : Fin 5) (p : Fin 441) : EReal :=
  dot (unitVec fun c => xq V0 q c p) (fun c => support (xs V0) w c p)

include hs hq in
theorem v79_at (q : Fin 64) (w : Fin 5) (p : Fin 441) : res_main_v79 V0 (ix3 q w p) = querySim V0 q w p := by
  unfold res_main_v79
  clean_types
  pointwise
  simp only [v60_at V0 hs, v61_at]
  exact cosine (isUnit_unitVec (hq q p)) (isUnit_support V0 hs w p)

include hs hq in
theorem v86_at (q : Fin 64) (w : Fin 5) (p : Fin 441) :
    res_main_v86 V0 (ix3 q w p) = Ideal.exp (querySim V0 q w p - rowMax (querySim V0 q w)) := by
  unfold res_main_v86
  clean_types
  pointwise
  simp only [v79_at V0 hs hq, bits_neg_inf, bot_le, max_eq_right]
  rfl

include hs hq in
theorem v93_at (q : Fin 64) (p : Fin 441) :
    res_main_v93 V0 (ix2 q p) = queryAgg (xq V0 q) (support (xs V0)) p := by
  unfold res_main_v93
  clean_types
  pointwise
  simp only [v86_at V0 hs hq]
  rfl

theorem call3_v8_at : res_main_call3_call0_v8 V0 ix0 = Ideal.ofBits .f32 0x46DC7E00#32 := by
  unfold res_main_call3_call0_v8
  clean_types
  pointwise
  rw [bits_queries, bits_queries_less_one]
  rw [show FloatOps.sitofp (F := Ideal) FTy.f32 1#32 = ((1 : ℝ) : EReal) from by
    show (((1#32 : BitVec 32).toInt : ℝ) : EReal) = _
    norm_num]
  rw [← EReal.coe_sub]; norm_num

include hs hq in
theorem call3_v5_at (q : Fin 64) (p : Fin 441) : res_main_call3_call0_v5 V0 (ix2 q p)
    = queryAgg (xq V0 q) (support (xs V0)) p
      - tableMean (Ideal.ofBits .f32 0x46DC8000#32) (fun q => queryAgg (xq V0 q) (support (xs V0))) := by
  unfold res_main_call3_call0_v5
  clean_types
  pointwise
  simp only [v93_at V0 hs hq]
  rfl

include hs hq in
theorem v108_at (q : Fin 64) (w : Fin 5) (p r : Fin 441) :
    res_main_v108 V0 (ix4 q w p r) = inner (xq V0) (xs V0) q w p r := by
  unfold res_main_v108
  clean_types
  pointwise
  rw [if_pos (by rw [call3_v8_at, bits_queries_less_one]; exact EReal.coe_pos.mpr (by norm_num))]
  simp only [v93_at V0 hs hq, call3_v5_at V0 hs hq, call3_v8_at, mask_bit, v6_at, v56_at V0 hs]
  rfl

end Cert.Dn4.Ref

end
-- ==== Proof.Top3.lean ====
/- The kernel takes the three largest of a row by removing the largest value twice and counting how many entries held it.
   For a row of reals above the marker that removed entries get, that is the sum of the three largest entries. -/
module

public import proofs.«01_k».proof.Proof.Unit

@[expose] public section

noncomputable section

namespace Cert.Dn4

open Idealize.ShloMosaic

/-- The largest of a row, from the least value the kernel starts at. -/
def top (x : Fin 441 → EReal) : EReal := Finset.univ.fold max (Ideal.ofBits .f32 0xFF800000#32) x

/-- How many entries of a row hold its largest value. -/
def tally (x : Fin 441 → EReal) : EReal :=
  ∑ k, FloatOps.sitofp (F := Ideal) .f32 (BitVec.setWidth 32 (BitVec.ofBool (decide (top x ≤ x k))))

/-- A row with the entries that hold its largest value overwritten by the marker. -/
def strip (x : Fin 441 → EReal) (k : Fin 441) : EReal := if top x ≤ x k then Ideal.ofBits .f32 0xCE6E6B28#32 else x k

/-- How often the largest value is taken. -/
def take1 (x : Fin 441 → EReal) : EReal := min (tally x) (Ideal.ofBits .f32 0x40400000#32)

/-- How often the second value is taken. -/
def take2 (x : Fin 441 → EReal) : EReal :=
  min (tally (strip x)) (max (Ideal.ofBits .f32 0x40400000#32 - take1 x) 0)

/-- The kernel's sum of the three largest entries. -/
def keepThree (x : Fin 441 → EReal) : EReal :=
  top x * take1 x + top (strip x) * take2 x +
    top (strip (strip x)) * max (Ideal.ofBits .f32 0x40400000#32 - take1 x - take2 x) 0

/-- `m` is the largest value of `f`. -/
def IsTop (f : Fin 441 → ℝ) (m : ℝ) : Prop := (∃ k, f k = m) ∧ ∀ k, f k ≤ m

theorem exists_isTop (f : Fin 441 → ℝ) : ∃ m, IsTop f m := by
  obtain ⟨k, _, hk⟩ := Finset.exists_max_image (Finset.univ : Finset (Fin 441)) f ⟨0, Finset.mem_univ 0⟩
  exact ⟨f k, ⟨k, rfl⟩, fun j => hk j (Finset.mem_univ j)⟩

theorem top_coe {f : Fin 441 → ℝ} {m : ℝ} (h : IsTop f m) : top (fun k => (f k : EReal)) = (m : EReal) := by
  obtain ⟨⟨k, hk⟩, hm⟩ := h
  unfold top
  rw [bits_neg_inf]
  apply le_antisymm
  · rw [Finset.fold_max_le]
    exact ⟨bot_le, fun j _ => EReal.coe_le_coe_iff.mpr (hm j)⟩
  · rw [Finset.le_fold_max]
    exact Or.inr ⟨k, Finset.mem_univ k, by rw [hk]⟩

theorem bit_of (b : Bool) :
    FloatOps.sitofp (F := Ideal) .f32 (BitVec.setWidth 32 (BitVec.ofBool b)) = (((if b then 1 else 0 : ℝ)) : EReal) := by
  rw [show FloatOps.sitofp (F := Ideal) .f32 (BitVec.setWidth 32 (BitVec.ofBool b))
    = (((BitVec.setWidth 32 (BitVec.ofBool b)).toInt : ℝ) : EReal) from rfl]
  cases b <;> simp

/-- The number of entries at or above `m`. -/
def count (f : Fin 441 → ℝ) (m : ℝ) : ℕ := (Finset.univ.filter fun k => m ≤ f k).card

theorem tally_coe {f : Fin 441 → ℝ} {m : ℝ} (h : IsTop f m) :
    tally (fun k => (f k : EReal)) = ((count f m : ℝ) : EReal) := by
  unfold tally count
  rw [top_coe h]
  simp only [bit_of]
  rw [coe_sum]
  congr 1
  rw [Finset.card_filter]
  push_cast
  exact Finset.sum_congr rfl fun k _ => by simp [EReal.coe_le_coe_iff]

/-- The overwritten row, over the reals. -/
def stripR (f : Fin 441 → ℝ) (m : ℝ) (k : Fin 441) : ℝ := if m ≤ f k then -1000000000 else f k

theorem strip_coe {f : Fin 441 → ℝ} {m : ℝ} (h : IsTop f m) :
    strip (fun k => (f k : EReal)) = fun k => (stripR f m k : EReal) := by
  funext k
  unfold strip stripR
  rw [top_coe h, bits_removed]
  by_cases hk : m ≤ f k
  · rw [if_pos hk, if_pos (EReal.coe_le_coe_iff.mpr hk)]
  · rw [if_neg hk, if_neg (fun h => hk (EReal.coe_le_coe_iff.mp h))]

/-- The kernel's sum over the reals, from the three tops and the two counts. -/
def keepR (m1 m2 m3 c1 c2 : ℝ) : ℝ :=
  m1 * min c1 3 + m2 * min c2 (max (3 - min c1 3) 0) + m3 * max (3 - min c1 3 - min c2 (max (3 - min c1 3) 0)) 0

theorem coe_min' (a b : ℝ) : min (a : EReal) b = ((min a b : ℝ) : EReal) := (EReal.coe_strictMono.monotone.map_min).symm
theorem coe_max' (a b : ℝ) : max (a : EReal) b = ((max a b : ℝ) : EReal) := (EReal.coe_strictMono.monotone.map_max).symm

theorem keepThree_coe {f : Fin 441 → ℝ} {m1 m2 m3 : ℝ} (h1 : IsTop f m1) (h2 : IsTop (stripR f m1) m2)
    (h3 : IsTop (stripR (stripR f m1) m2) m3) :
    keepThree (fun k => (f k : EReal)) = (keepR m1 m2 m3 (count f m1) (count (stripR f m1) m2) : EReal) := by
  unfold keepThree take2 take1 keepR
  rw [strip_coe h1, strip_coe h2, top_coe h1, top_coe h2, top_coe h3, tally_coe h1, tally_coe h2, bits_three,
    ← EReal.coe_zero]
  simp only [coe_min', coe_max', ← EReal.coe_sub, ← EReal.coe_mul, ← EReal.coe_add]

/-- The sum of three entries that no other entry exceeds. -/
theorem keepThree_eq (f : Fin 441 → ℝ) (hlow : ∀ k, -1000000000 < f k) (i j l : Fin 441) (hij : i ≠ j) (hil : i ≠ l)
    (hjl : j ≠ l) (h1 : f j ≤ f i) (h2 : f l ≤ f j) (hrest : ∀ k, k ≠ i → k ≠ j → k ≠ l → f k ≤ f l) :
    keepThree (fun k => (f k : EReal)) = (f i : EReal) + f j + f l := by
  have hle : ∀ k, k ≠ i → k ≠ j → f k ≤ f l := fun k a b => by
    by_cases c : k = l
    · rw [c]
    · exact hrest k a b c
  have hlej : ∀ k, k ≠ i → f k ≤ f j := fun k a => by
    by_cases b : k = j
    · rw [b]
    · exact (hle k a b).trans h2
  have t1 : IsTop f (f i) := ⟨⟨i, rfl⟩, fun k => by
    by_cases a : k = i
    · rw [a]
    · exact (hlej k a).trans h1⟩
  obtain ⟨m2, t2⟩ := exists_isTop (stripR f (f i))
  obtain ⟨m3, t3⟩ := exists_isTop (stripR (stripR f (f i)) m2)
  rw [keepThree_coe t1 t2 t3, ← EReal.coe_add, ← EReal.coe_add]
  congr 1
  have uniq : ∀ (g : Fin 441 → ℝ) (m m' : ℝ), IsTop g m → IsTop g m' → m = m' := fun g m m' ⟨⟨k, hk⟩, h⟩ ⟨⟨k', hk'⟩, h'⟩ =>
    le_antisymm (hk ▸ h' k) (hk' ▸ h k')
  unfold keepR
  by_cases hl : f l = f i
  · -- all three are equal
    have hj : f j = f i := le_antisymm h1 (hl ▸ h2)
    have hc : 3 ≤ count f (f i) := by
      have : ({i, j, l} : Finset (Fin 441)).card = 3 := Finset.card_eq_three.mpr ⟨i, j, l, hij, hil, hjl, rfl⟩
      rw [← this]
      refine Finset.card_le_card fun k hk => ?_
      simp only [Finset.mem_insert, Finset.mem_singleton] at hk
      simp only [Finset.mem_filter, Finset.mem_univ, true_and]
      rcases hk with rfl | rfl | rfl
      · exact le_refl _
      · exact hj.ge
      · exact hl.ge
    have hc' : (3 : ℝ) ≤ (count f (f i) : ℝ) := by exact_mod_cast hc
    have hp : (0 : ℝ) ≤ (count (stripR f (f i)) m2 : ℝ) := Nat.cast_nonneg _
    rw [min_eq_right hc', sub_self, max_self, min_eq_right hp, sub_zero, max_self, hl, hj]
    ring
  · have hli : f l < f i := lt_of_le_of_ne (h2.trans h1) hl
    by_cases hj : f j = f i
    · -- two are equal, the third is less
      have hc : count f (f i) = 2 := by
        rw [← Finset.card_pair hij]
        unfold count
        congr 1
        ext k
        simp only [Finset.mem_filter, Finset.mem_univ, true_and, Finset.mem_insert, Finset.mem_singleton]
        constructor
        · intro hk
          by_contra hn
          push Not at hn
          exact absurd (hk.trans (hle k hn.1 hn.2)) (not_le.mpr hli)
        · rintro (rfl | rfl)
          · exact le_refl _
          · exact hj.ge
      have sl : stripR f (f i) l = f l := if_neg (not_le.mpr hli)
      have hm : IsTop (stripR f (f i)) (f l) := ⟨⟨l, sl⟩, fun k => by
        unfold stripR
        split_ifs with hk
        · exact (hlow l).le
        · refine hle k (fun a => hk (a ▸ le_refl _)) (fun b => hk (b ▸ hj.ge))⟩
      obtain rfl := uniq _ _ _ t2 hm
      have hc2 : (1 : ℝ) ≤ (count (stripR f (f i)) (f l) : ℝ) := by
        have : 1 ≤ count (stripR f (f i)) (f l) := Finset.card_pos.mpr ⟨l, by simp [sl]⟩
        exact_mod_cast this
      rw [hc, hj]
      norm_num [hc2]
      ring
    · -- the largest stands alone
      have hji : f j < f i := lt_of_le_of_ne h1 hj
      have hc : count f (f i) = 1 := by
        rw [← Finset.card_singleton i]
        unfold count
        congr 1
        ext k
        simp only [Finset.mem_filter, Finset.mem_univ, true_and, Finset.mem_singleton]
        constructor
        · intro hk
          by_contra hn
          exact absurd (hk.trans (hlej k hn)) (not_le.mpr hji)
        · rintro rfl
          exact le_refl _
      have sj : stripR f (f i) j = f j := if_neg (not_le.mpr hji)
      have sl : stripR f (f i) l = f l := if_neg (not_le.mpr hli)
      have si : stripR f (f i) i = -1000000000 := if_pos (le_refl _)
      have sk : ∀ k, k ≠ i → stripR f (f i) k = f k := fun k hk =>
        if_neg (not_le.mpr (lt_of_le_of_lt (hlej k hk) hji))
      have hm : IsTop (stripR f (f i)) (f j) := ⟨⟨j, sj⟩, fun k => by
        by_cases a : k = i
        · rw [a, si]; exact (hlow j).le
        · rw [sk k a]; exact hlej k a⟩
      obtain rfl := uniq _ _ _ t2 hm
      by_cases hlj : f l = f j
      · have hc2 : (2 : ℝ) ≤ (count (stripR f (f i)) (f j) : ℝ) := by
          have : 2 ≤ count (stripR f (f i)) (f j) := by
            rw [← Finset.card_pair hjl]
            refine Finset.card_le_card fun k hk => ?_
            simp only [Finset.mem_insert, Finset.mem_singleton] at hk
            simp only [Finset.mem_filter, Finset.mem_univ, true_and]
            rcases hk with rfl | rfl
            · exact sj.ge
            · rw [sl]; exact hlj.ge
          exact_mod_cast this
        rw [hc, hlj]
        norm_num [hc2]
        ring
      · have hlj' : f l < f j := lt_of_le_of_ne h2 hlj
        have hc2 : count (stripR f (f i)) (f j) = 1 := by
          rw [← Finset.card_singleton j]
          unfold count
          congr 1
          ext k
          simp only [Finset.mem_filter, Finset.mem_univ, true_and, Finset.mem_singleton]
          constructor
          · intro hk
            by_contra hn
            by_cases a : k = i
            · rw [a, si] at hk; exact absurd hk (not_le.mpr (hlow j))
            · rw [sk k a] at hk; exact absurd (hk.trans (hle k a hn)) (not_le.mpr hlj')
          · rintro rfl
            exact sj.ge
        have hm3 : IsTop (stripR (stripR f (f i)) (f j)) (f l) := ⟨⟨l, by
            unfold stripR at sl ⊢; rw [sl]; exact if_neg (not_le.mpr hlj')⟩, fun k => by
          show (if f j ≤ stripR f (f i) k then (-1000000000 : ℝ) else stripR f (f i) k) ≤ f l
          split_ifs with hk
          · exact (hlow l).le
          · by_cases a : k = i
            · rw [a, si]; exact (hlow l).le
            · rw [sk k a] at hk ⊢
              exact hle k a (fun b => hk (b ▸ le_refl _))⟩
        obtain rfl := uniq _ _ _ t3 hm3
        rw [hc, hc2]
        norm_num

/-- The score of a query image against a way. -/
def score (xq : Fin 64 → Fin 640 → Fin 441 → EReal) (xs : Fin 5 → Fin 640 → Fin 441 → EReal) (q : Fin 64) (w : Fin 5) : EReal :=
  ∑ p, keepThree fun r => inner xq xs q w p r

/-- The masked descriptors' inner products are reals well above the marker. -/
theorem inner_real (xq : Fin 64 → Fin 640 → Fin 441 → EReal) (xs : Fin 5 → Fin 640 → Fin 441 → EReal)
    (hs : ∀ w p, Long fun c => xs w c p) (hq : ∀ q p, Long fun c => xq q c p) (q : Fin 64) (w : Fin 5) (p r : Fin 441) :
    ∃ v : ℝ, inner xq xs q w p r = (v : EReal) ∧ -1000000000 < v := by
  obtain ⟨v, h, h'⟩ := IsUnit.dot_real
    (y := fun c => maskedQuery xq (support xs) q c p) (z := fun c => support xs w c r)
    ((isUnit_unitVec (hq q p)).mask _ _) ((isUnit_unitVec (hs w r)).mask _ _)
  exact ⟨v, h, by linarith⟩

end Cert.Dn4

end
-- ==== Proof.TopK.lean ====
/- The three greatest entries of the reference's stable sort, summed, are the kernel's sum of the three largest. -/
module

public import proofs.«01_k».proof.Proof.Top3
public import proofs.«01_k».proof.Proof.Gen.ReferenceIdeal.Run
public import Idealize.ShloMosaic.Lib.SortFacts
public import Idealize.ShloMosaic.Lib.Pointwise

@[expose] public section

set_option maxRecDepth 16384

noncomputable section

namespace Cert.Dn4

open Cert.ReferenceIdeal
open Idealize.ShloMosaic Idealize.ShloMosaic.TcCoe Idealize.SL.Sem

/-- The order in which the sort reads a row. -/
def order (x : Fin 441 → EReal) : Fin 441 → Fin 441 := sortedFrom fun k k' => decide (x k' < x k)

theorem order_antitone (x : Fin 441 → EReal) {i j : Fin 441} (h : i < j) : x (order x j) ≤ x (order x i) := by
  have := sortedFrom_noInversion (fun k k' => decide (x k' < x k)) (fun k k' => decide (x k' < x k))
    (fun a b h => by simp only [decide_eq_true_eq, decide_eq_false_iff_not, not_lt] at h ⊢; exact h.le)
    (fun a b h => h)
    (fun a b c h h' => by simp only [decide_eq_false_iff_not, not_lt] at h h' ⊢; exact h.trans h') i j h
  simpa only [decide_eq_false_iff_not, not_lt, order] using this

/-- The three greatest entries add up to the kernel's sum. -/
theorem sum_order (x : Fin 441 → EReal) (hx : ∀ k, ∃ r : ℝ, x k = (r : EReal) ∧ -1000000000 < r) :
    x (order x 0) + x (order x 1) + x (order x 2) = keepThree x := by
  choose f hf hlow using hx
  obtain rfl : x = fun k => (f k : EReal) := funext hf
  have inj : Function.Injective (order fun k => (f k : EReal)) := sortedFrom_injective _
  have mono : ∀ {i j : Fin 441}, i < j → f (order (fun k => (f k : EReal)) j) ≤ f (order (fun k => (f k : EReal)) i) :=
    fun h => EReal.coe_le_coe_iff.mp (order_antitone (fun k => (f k : EReal)) h)
  refine (keepThree_eq f hlow _ _ _ (fun h => absurd (inj h) (by decide)) (fun h => absurd (inj h) (by decide))
    (fun h => absurd (inj h) (by decide)) (mono (by decide)) (mono (by decide)) fun k h0 h1 h2 => ?_).symm
  obtain ⟨n, rfl⟩ := sortedFrom_surjective (fun k k' => decide ((f k' : EReal) < (f k : EReal))) k
  refine mono ?_
  by_contra hn
  have hn2 : n.val ≤ 2 := not_lt.mp hn
  rcases n with ⟨n, hlt⟩
  have : n = 0 ∨ n = 1 ∨ n = 2 := by simp only at hn2; omega
  rcases this with rfl | rfl | rfl
  · exact h0 rfl
  · exact h1 rfl
  · exact h2 rfl

theorem topK_at (x : FVec Ideal S64x5x441x441 .f32) (h : S64x5x441x441.Slices (fun _ => 0) S64x5x441x3) (q : Fin 64) (w : Fin 5)
    (p : Fin 441) (k : Fin 3) :
    (Host.topK S64x5x441x3 3 (FloatOps.cmpfTotal (F := Ideal) (φ := .f32) .gt) x h).1 (ix4 q w p k)
      = x (ix4 q w p (order (fun r => x (ix4 q w p r)) (k.castLE (by decide)))) := by
  have along : ∀ r r' : Fin 441, Shape.Idx.along (s := S64x5x441x441) (ix4 q w p r) 3 r' = ix4 q w p r' := by
    intro r r'
    funext a
    unfold Shape.Idx.along
    match a with
    | 0 => rfl
    | 1 => rfl
    | 2 => rfl
    | 3 => rfl
  have slice : (fun a : Fin S64x5x441x441.rank => (⟨0 + ((ix4 q w p k : S64x5x441x3.Idx) (a.cast h.1.symm)).val,
      Nat.lt_of_lt_of_le (Nat.add_lt_add_left ((ix4 q w p k : S64x5x441x3.Idx) _).isLt _) (h.2 a)⟩ : Fin (S64x5x441x441.size a)))
      = ix4 q w p (k.castLE (by decide) : Fin 441) := by
    funext a
    apply Fin.ext
    match a with
    | 0 => exact Nat.zero_add _
    | 1 => exact Nat.zero_add _
    | 2 => exact Nat.zero_add _
    | 3 => exact Nat.zero_add _
  unfold Host.topK Host.sort2 extractStridedSlice
  simp only [slice]
  rw [dif_pos (show 3 < S64x5x441x441.rank by decide)]
  refine (congrArg x (along _ _)).trans ?_
  refine congrArg (fun n : Fin 441 => x (ix4 q w p n)) ?_
  unfold order
  refine congrFun (congrArg (sortedFrom (n := 441)) ?_) (k.castLE (by decide))
  funext r r'
  refine (congrArg₂ (fun a b => (Ideal.cmp .ogt a b == 1#1)) (congrArg x (along (k.castLE (by decide)) r))
    (congrArg x (along (k.castLE (by decide)) r'))).trans ?_
  change _ = decide (x (ix4 q w p r') < x (ix4 q w p r))
  generalize x (ix4 q w p r') = a, x (ix4 q w p r) = b
  show (BitVec.ofBool (decide (a < b)) == 1#1) = _
  by_cases hh : a < b <;> simp [hh]

/-- A row of the reference's three greatest, added. -/
theorem sum_topK (x : FVec Ideal S64x5x441x441 .f32) (h : S64x5x441x441.Slices (fun _ => 0) S64x5x441x3) (q : Fin 64) (w : Fin 5)
    (p : Fin 441) (f : Fin 441 → EReal) (hf : ∀ r, x (ix4 q w p r) = f r)
    (hreal : ∀ r, ∃ v : ℝ, f r = (v : EReal) ∧ -1000000000 < v) :
    ∑ k : Fin 3, (Host.topK S64x5x441x3 3 (FloatOps.cmpfTotal (F := Ideal) (φ := .f32) .gt) x h).1 (ix4 q w p k)
      = keepThree f := by
  obtain rfl : (fun r => x (ix4 q w p r)) = f := funext hf
  rw [← sum_order _ hreal, Fin.sum_univ_three, topK_at, topK_at, topK_at]
  rfl

end Cert.Dn4

end
-- ==== Proof.ReferenceOut.lean ====
/- The reference's result: over the query's positions, the three largest inner products with a way's support, added. -/
module

public import proofs.«01_k».proof.Proof.Reference
public import proofs.«01_k».proof.Proof.TopK

@[expose] public section

set_option maxRecDepth 16384

noncomputable section

namespace Cert.Dn4

open Idealize.ShloMosaic Idealize.ShloMosaic.TcCoe Idealize.SL.Sem

namespace Ref

open Cert.ReferenceIdeal Cert.ReferenceIdeal.Gen Cert.ReferenceIdeal.Value

theorem row_sums (x : FVec Ideal S64x5x441x3 .f32) (q : Fin 64) (w : Fin 5) :
    Host.reduceAdd (F := Ideal) (Host.reduceAdd (F := Ideal) x (constant S_ .f32 0x00000000#32) reducesTo_S64x5x441x3_S64x5x441_d3 h_S_)
        (constant S_ .f32 0x00000000#32) reducesTo_S64x5x441_S64x5_d2 h_S_ (ix2 q w)
      = ∑ p : Fin 441, ∑ k : Fin 3, x (ix4 q w p k) := by
  pointwise

/-- The reference's result, in the words of the specification. -/
theorem out_at (V0 : Valuation τ sig (Elt Ideal)) (hs : ∀ w p, Long fun c => xs V0 w c p) (hq : ∀ q p, Long fun c => xq V0 q c p)
    (q : Fin 64) (w : Fin 5) :
    Host.reduceAdd (F := Ideal) (Host.reduceAdd (F := Ideal) ((Host.topK S64x5x441x3 3 (FloatOps.cmpfTotal (F := Ideal) (φ := .f32) .gt)
        (res_main_v108 V0) sliceFits_S64x5x441x441_S64x5x441x3).1) (constant S_ .f32 0x00000000#32) reducesTo_S64x5x441x3_S64x5x441_d3 h_S_)
        (constant S_ .f32 0x00000000#32) reducesTo_S64x5x441_S64x5_d2 h_S_ (ix2 q w)
      = score (xq V0) (xs V0) q w := by
  rw [row_sums]
  exact Finset.sum_congr rfl fun p _ => sum_topK _ _ q w p _ (fun r => v108_at V0 hs hq q w p r)
    (fun r => inner_real _ _ hs hq q w p r)

end Ref

end Cert.Dn4

end
-- ==== Proof.Region3.lean ====
/- The last stage of the kernel: a query's masked descriptors against the five ways' masked support. -/
module

public import proofs.«01_k».proof.Proof.Top3
public import proofs.«01_k».proof.Proof.Gen.KernelIdeal.Frame
public import Idealize.ShloMosaic.Lib.Pointwise
public import Idealize.ShloMosaic.Lib.Tactic.CleanTypes

@[expose] public section

set_option maxRecDepth 16384

noncomputable section

namespace Cert.Dn4.Region3

open Cert.KernelIdeal Cert.KernelIdeal.Gen
open Idealize.ShloMosaic Idealize.ShloMosaic.TcCoe Idealize.SL.Sem

theorem mask_bit (a t : EReal) :
    FloatOps.sitofp (F := Ideal) .f32 (BitVec.setWidth 32 (BitVec.ofBool (decide (t < a)))) = mask a t := by
  rw [bit_of]
  unfold mask
  by_cases h : t < a <;> simp [h]

/-- The inner products of the columns of two matrices, over the 640 channels. -/
def prods (a b : Fin 640 → Fin 441 → EReal) (p r : Fin 441) : EReal := ∑ c, a c p * b c r

/-- The masked query. -/
theorem masked_at (v0 : Vec Ideal S1x1 .f32) (v2 : Vec Ideal S1x1x441 .f32) (v9 : Vec Ideal S1x640x441 .bf16) (c : Fin 640) (p : Fin 441) :
    k3_pay2 v0 v2 v9 (ix2 c p) = v9 (ix3 0 c p) * mask (v2 (ix3 0 0 p)) (v0 (ix2 0 0)) := by
  pointwise [k3_pay2]
  simp only [mask_bit]

/-- A way's inner products. -/
theorem prods_at (M : FVec Ideal S640x441 .bf16) (v : Vec Ideal S1x640x441 .bf16) (p r : Fin 441) :
    k3_pay14 M v (ix2 p r) = prods (fun c p => M (ix2 c p)) (fun c r => v (ix3 0 c r)) p r := by
  pointwise [k3_pay14]
  rfl

theorem way0_at (v0 : Vec Ideal S1x1 .f32) (v2 : Vec Ideal S1x1x441 .f32) (v9 : Vec Ideal S1x640x441 .bf16) (v : Vec Ideal S1x640x441 .bf16) :
    k3_pay13 (k3_pay4 v0 v2 v9 v) (k3_pay6 v0 v2 v9 v) (k3_pay8 v0 v2 v9 v) (k3_pay10 v0 v2 v9 v) (k3_pay11 v0 v2 v9 v) k3_pay12 (ix2 0 0)
      = ∑ p, keepThree fun r => prods (fun c p => k3_pay2 v0 v2 v9 (ix2 c p)) (fun c r => v (ix3 0 c r)) p r := by
  simp only [← prods_at]
  pointwise [k3_pay13, k3_pay12, k3_pay11, k3_pay10, k3_pay9, k3_pay8, k3_pay7, k3_pay6, k3_pay5, k3_pay4]
  rfl

theorem way1_at (M : FVec Ideal S640x441 .bf16) (v : Vec Ideal S1x640x441 .bf16) :
    k3_pay23 (k3_pay15 M v) (k3_pay17 M v) (k3_pay19 M v) (k3_pay21 M v) (k3_pay22 M v) (Scalar.ofBits .f32 0x40400000#32) (ix2 0 0)
      = ∑ p, keepThree fun r => prods (fun c p => M (ix2 c p)) (fun c r => v (ix3 0 c r)) p r := by
  simp only [← prods_at]
  pointwise [k3_pay23, k3_pay22, k3_pay21, k3_pay20, k3_pay19, k3_pay18, k3_pay17, k3_pay16, k3_pay15]
  rfl

theorem way2_at (M : FVec Ideal S640x441 .bf16) (v : Vec Ideal S1x640x441 .bf16) :
    k3_pay33 (k3_pay25 M v) (k3_pay27 M v) (k3_pay29 M v) (k3_pay31 M v) (k3_pay32 M v) (ix2 0 0)
      = ∑ p, keepThree fun r => prods (fun c p => M (ix2 c p)) (fun c r => v (ix3 0 c r)) p r := by
  simp only [← prods_at]
  pointwise [k3_pay33, k3_pay32, k3_pay31, k3_pay30, k3_pay29, k3_pay28, k3_pay27, k3_pay26, k3_pay25]
  rfl

theorem way3_at (M : FVec Ideal S640x441 .bf16) (v : Vec Ideal S1x640x441 .bf16) :
    k3_pay43 (k3_pay35 M v) (k3_pay37 M v) (k3_pay39 M v) (k3_pay41 M v) (k3_pay42 M v) (ix2 0 0)
      = ∑ p, keepThree fun r => prods (fun c p => M (ix2 c p)) (fun c r => v (ix3 0 c r)) p r := by
  simp only [← prods_at]
  pointwise [k3_pay43, k3_pay42, k3_pay41, k3_pay40, k3_pay39, k3_pay38, k3_pay37, k3_pay36, k3_pay35]
  rfl

theorem way4_at (M : FVec Ideal S640x441 .bf16) (v : Vec Ideal S1x640x441 .bf16) (a0 a1 a2 a3 : FVec Ideal S1x1 .f32) :
    k3_pay1 a0 a1 a2 a3 (k3_pay45 M v) (k3_pay47 M v) (k3_pay49 M v) (k3_pay51 M v) (k3_pay52 M v) (ix3 0 0 4)
      = ∑ p, keepThree fun r => prods (fun c p => M (ix2 c p)) (fun c r => v (ix3 0 c r)) p r := by
  simp only [← prods_at]
  pointwise [k3_pay1, k3_pay52, k3_pay51, k3_pay50, k3_pay49, k3_pay48, k3_pay47, k3_pay46, k3_pay45]
  rfl

theorem row_at (a0 a1 a2 a3 : FVec Ideal S1x1 .f32) (b0 b1 b2 b3 : FVec Ideal S441x1 .f32) (b4 : FVec Ideal S441x441 .f32) :
    k3_pay1 a0 a1 a2 a3 b0 b1 b2 b3 b4 (ix3 0 0 0) = a0 (ix2 0 0) ∧ k3_pay1 a0 a1 a2 a3 b0 b1 b2 b3 b4 (ix3 0 0 1) = a1 (ix2 0 0) ∧
    k3_pay1 a0 a1 a2 a3 b0 b1 b2 b3 b4 (ix3 0 0 2) = a2 (ix2 0 0) ∧ k3_pay1 a0 a1 a2 a3 b0 b1 b2 b3 b4 (ix3 0 0 3) = a3 (ix2 0 0) := by
  refine ⟨?_, ?_, ?_, ?_⟩ <;> pointwise [k3_pay1] <;> rfl

/-- The scores of one query image against the five ways. -/
theorem out_at (x0 : Vec Ideal S1x640x441 .bf16) (x1 : Vec Ideal S5x640x441 .bf16) (x2 : Vec Ideal S1x1x441 .f32) (x3 : Vec Ideal S1x1 .f32) (w : Fin 5) :
    out3_4 x0 x1 x2 x3 (ix3 0 0 w)
      = ∑ p, keepThree fun r => prods (fun c p => x0 (ix3 0 c p) * mask (x2 (ix3 0 0 p)) (x3 (ix2 0 0))) (fun c r => x1 (ix3 w c r)) p r := by
  unfold_out out3_4
  have z3 : (![0, 0, 0] : Fin 3 → ℕ) = fun _ => 0 := by funext a; fin_cases a <;> rfl
  have z2 : (![0, 0] : Fin 2 → ℕ) = fun _ => 0 := by funext a; fin_cases a <;> rfl
  rw [View.canon_unit_zero z3, View.ld_unit_zero z2, View.ld_unit_zero z3 _ x2, View.ld_unit_zero z3 _ x0]
  have row := row_at
  fin_cases w
  · refine ((row _ _ _ _ _ _ _ _ _).1.trans (way0_at _ _ _ _)).trans ?_
    simp only [masked_at]
    pointwise
  · refine ((row _ _ _ _ _ _ _ _ _).2.1.trans (way1_at _ _)).trans ?_
    simp only [masked_at]
    pointwise
  · refine ((row _ _ _ _ _ _ _ _ _).2.2.1.trans (way2_at _ _)).trans ?_
    simp only [masked_at]
    pointwise
  · refine ((row _ _ _ _ _ _ _ _ _).2.2.2.trans (way3_at _ _)).trans ?_
    simp only [masked_at]
    pointwise
  · refine (way4_at _ _ _ _ _ _).trans ?_
    simp only [masked_at]
    pointwise

end Cert.Dn4.Region3

end
-- ==== Proof.Region0.lean ====
/- The first stage of the kernel: the supports' descriptors, their mutual cosines, and the masked support. -/
module

public import proofs.«01_k».proof.Proof.Region3

@[expose] public section

set_option maxRecDepth 16384

noncomputable section

namespace Cert.Dn4.Region0

open Cert.KernelIdeal Cert.KernelIdeal.Gen
open Idealize.ShloMosaic Idealize.ShloMosaic.TcCoe Idealize.SL.Sem

/-- The support descriptors divided by their norms. -/
theorem unit_at (v0 : Vec Ideal S5x640x441 .f32) (hs : ∀ w p, Long fun c => v0 (ix3 w c p)) (w : Fin 5) (c : Fin 640) (p : Fin 441) :
    k0_pay1 v0 (ix3 w c p) = unitVec (fun c => v0 (ix3 w c p)) c := by
  pointwise [k0_pay1]
  exact congrArg (Ideal.div _) (nrm_floor (hs w p))

/-- The inner products of pair `k = 5 i + j` of supports. -/
def pair (n : Fin 5 → Fin 640 → Fin 441 → EReal) (k : Fin 25) (p : Fin 441) : EReal :=
  dot (fun c => n ⟨k.val / 5, by omega⟩ c p) (fun c => n ⟨k.val % 5, by omega⟩ c p)

theorem pair0 (v0 : Vec Ideal S5x640x441 .f32) (p : Fin 441) :
    k0_pay2 v0 (ix2 0 p) = ∑ c, k0_pay1 v0 (ix3 0 c p) * k0_pay1 v0 (ix3 0 c p) := by
  pointwise [k0_pay2]

theorem pair1 (v0 : Vec Ideal S5x640x441 .f32) (p : Fin 441) :
    k0_pay3 v0 (ix2 0 p) = ∑ c, k0_pay1 v0 (ix3 0 c p) * k0_pay1 v0 (ix3 1 c p) := by
  pointwise [k0_pay3]

theorem pair2 (v0 : Vec Ideal S5x640x441 .f32) (p : Fin 441) :
    k0_pay4 v0 (ix2 0 p) = ∑ c, k0_pay1 v0 (ix3 0 c p) * k0_pay1 v0 (ix3 2 c p) := by
  pointwise [k0_pay4]

theorem pair3 (v0 : Vec Ideal S5x640x441 .f32) (p : Fin 441) :
    k0_pay5 v0 (ix2 0 p) = ∑ c, k0_pay1 v0 (ix3 0 c p) * k0_pay1 v0 (ix3 3 c p) := by
  pointwise [k0_pay5]

theorem pair4 (v0 : Vec Ideal S5x640x441 .f32) (p : Fin 441) :
    k0_pay6 v0 (ix2 0 p) = ∑ c, k0_pay1 v0 (ix3 0 c p) * k0_pay1 v0 (ix3 4 c p) := by
  pointwise [k0_pay6]

theorem pair5 (v0 : Vec Ideal S5x640x441 .f32) (p : Fin 441) :
    k0_pay8 (k0_pay7 v0) (ix2 0 p) = ∑ c, k0_pay1 v0 (ix3 1 c p) * k0_pay1 v0 (ix3 0 c p) := by
  pointwise [k0_pay8, k0_pay7]

theorem pair6 (v0 : Vec Ideal S5x640x441 .f32) (p : Fin 441) :
    k0_pay9 (k0_pay1 v0) (ix2 0 p) = ∑ c, k0_pay1 v0 (ix3 1 c p) * k0_pay1 v0 (ix3 1 c p) := by
  pointwise [k0_pay9]

theorem pair7 (v0 : Vec Ideal S5x640x441 .f32) (p : Fin 441) :
    k0_pay10 (k0_pay1 v0) (ix2 0 p) = ∑ c, k0_pay1 v0 (ix3 1 c p) * k0_pay1 v0 (ix3 2 c p) := by
  pointwise [k0_pay10]

theorem pair8 (v0 : Vec Ideal S5x640x441 .f32) (p : Fin 441) :
    k0_pay11 (k0_pay1 v0) (ix2 0 p) = ∑ c, k0_pay1 v0 (ix3 1 c p) * k0_pay1 v0 (ix3 3 c p) := by
  pointwise [k0_pay11]

theorem pair9 (v0 : Vec Ideal S5x640x441 .f32) (p : Fin 441) :
    k0_pay12 (k0_pay1 v0) (ix2 0 p) = ∑ c, k0_pay1 v0 (ix3 1 c p) * k0_pay1 v0 (ix3 4 c p) := by
  pointwise [k0_pay12]

theorem pair10 (v0 : Vec Ideal S5x640x441 .f32) (p : Fin 441) :
    k0_pay13 (k0_pay1 v0) (ix2 0 p) = ∑ c, k0_pay1 v0 (ix3 2 c p) * k0_pay1 v0 (ix3 0 c p) := by
  pointwise [k0_pay13]

theorem pair11 (v0 : Vec Ideal S5x640x441 .f32) (p : Fin 441) :
    k0_pay14 (k0_pay1 v0) (ix2 0 p) = ∑ c, k0_pay1 v0 (ix3 2 c p) * k0_pay1 v0 (ix3 1 c p) := by
  pointwise [k0_pay14]

theorem pair12 (v0 : Vec Ideal S5x640x441 .f32) (p : Fin 441) :
    k0_pay15 (k0_pay1 v0) (ix2 0 p) = ∑ c, k0_pay1 v0 (ix3 2 c p) * k0_pay1 v0 (ix3 2 c p) := by
  pointwise [k0_pay15]

theorem pair13 (v0 : Vec Ideal S5x640x441 .f32) (p : Fin 441) :
    k0_pay17 (k0_pay1 v0) (k0_pay16 (k0_pay1 v0)) (ix2 0 p) = ∑ c, k0_pay1 v0 (ix3 2 c p) * k0_pay1 v0 (ix3 3 c p) := by
  pointwise [k0_pay17, k0_pay16]

theorem pair14 (v0 : Vec Ideal S5x640x441 .f32) (p : Fin 441) :
    k0_pay18 (k0_pay1 v0) (ix2 0 p) = ∑ c, k0_pay1 v0 (ix3 2 c p) * k0_pay1 v0 (ix3 4 c p) := by
  pointwise [k0_pay18]

theorem pair15 (v0 : Vec Ideal S5x640x441 .f32) (p : Fin 441) :
    k0_pay19 (k0_pay1 v0) (ix2 0 p) = ∑ c, k0_pay1 v0 (ix3 3 c p) * k0_pay1 v0 (ix3 0 c p) := by
  pointwise [k0_pay19]

theorem pair16 (v0 : Vec Ideal S5x640x441 .f32) (p : Fin 441) :
    k0_pay20 (k0_pay1 v0) (ix2 0 p) = ∑ c, k0_pay1 v0 (ix3 3 c p) * k0_pay1 v0 (ix3 1 c p) := by
  pointwise [k0_pay20]

theorem pair17 (v0 : Vec Ideal S5x640x441 .f32) (p : Fin 441) :
    k0_pay21 (k0_pay1 v0) (ix2 0 p) = ∑ c, k0_pay1 v0 (ix3 3 c p) * k0_pay1 v0 (ix3 2 c p) := by
  pointwise [k0_pay21]

theorem pair18 (v0 : Vec Ideal S5x640x441 .f32) (p : Fin 441) :
    k0_pay22 (k0_pay1 v0) (ix2 0 p) = ∑ c, k0_pay1 v0 (ix3 3 c p) * k0_pay1 v0 (ix3 3 c p) := by
  pointwise [k0_pay22]

theorem pair19 (v0 : Vec Ideal S5x640x441 .f32) (p : Fin 441) :
    k0_pay23 (k0_pay1 v0) (ix2 0 p) = ∑ c, k0_pay1 v0 (ix3 3 c p) * k0_pay1 v0 (ix3 4 c p) := by
  pointwise [k0_pay23]

theorem pair20 (v0 : Vec Ideal S5x640x441 .f32) (c : Fin 640) (p : Fin 441) :
    k0_pay24 (k0_pay1 v0) (ix2 c p) = k0_pay1 v0 (ix3 4 c p) * k0_pay1 v0 (ix3 0 c p) := by
  pointwise [k0_pay24]

theorem soft_at (v0 : Vec Ideal S5x640x441 .f32) (k : Fin 25) (p : Fin 441) :
    k0_pay25 (k0_pay1 v0) (k0_pay2 v0) (k0_pay3 v0) (k0_pay4 v0) (k0_pay5 v0) (k0_pay6 v0) (k0_pay8 (k0_pay7 v0)) (k0_pay9 (k0_pay1 v0))
        (k0_pay10 (k0_pay1 v0)) (k0_pay11 (k0_pay1 v0)) (k0_pay12 (k0_pay1 v0)) (k0_pay13 (k0_pay1 v0)) (k0_pay14 (k0_pay1 v0))
        (k0_pay15 (k0_pay1 v0)) (k0_pay17 (k0_pay1 v0) (k0_pay16 (k0_pay1 v0))) (k0_pay18 (k0_pay1 v0)) (k0_pay19 (k0_pay1 v0))
        (k0_pay20 (k0_pay1 v0)) (k0_pay21 (k0_pay1 v0)) (k0_pay22 (k0_pay1 v0)) (k0_pay23 (k0_pay1 v0)) (k0_pay24 (k0_pay1 v0)) (ix2 k p)
      = softmax (fun p => pair (fun w c p => k0_pay1 v0 (ix3 w c p)) k p) p := by
  pointwise [k0_pay25]
  fin_vals k with hk
  all_goals
    simp only [hk, Nat.reduceSub, Nat.reduceLT, ↓reduceDIte]
    simp only [bits_neg_inf, softmax, rowMax, pair, dot, hk, Nat.reduceDiv, Nat.reduceMod, Fin.mk_zero, Fin.zero_eta, Fin.mk_one, Fin.reduceFinMk, pair0, pair1, pair2, pair3, pair4, pair5, pair6, pair7, pair8, pair9, pair10, pair11, pair12, pair13, pair14, pair15, pair16, pair17, pair18, pair19, pair20]

/-- The five averages of five rows of the softmax table. -/
def fives (T : FVec Ideal S25x441 .f32) (w : Fin 5) (p : Fin 441) : EReal :=
  Ideal.div (∑ j : Fin 5, T (ix2 ⟨5 * w.val + j.val, by omega⟩ p)) (Ideal.ofBits .f32 0x40A00000#32)

theorem masked_at (V : FVec Ideal S5x640x441 .f32) (T : FVec Ideal S25x441 .f32) (a b d : FVec Ideal S1x441 .f32)
    (ha : ∀ p, a (ix2 0 p) = fives T 0 p) (hb : ∀ p, Ideal.div (b (ix2 0 p)) (d (ix2 0 p)) = fives T 1 p)
    (w : Fin 5) (c : Fin 640) (p : Fin 441) :
    k0_pay29 V T a b d (ix3 w c p)
      = V (ix3 w c p) * mask (fives T w p) (thr (Ideal.ofBits .f32 0x4509D000#32) (Ideal.ofBits .f32 0x4509C000#32) (fives T)) := by
  pointwise [k0_pay29]
  have L : ∀ (x : Fin 5) (y : Fin 441),
      (if h : (x : ℕ) < 1 then a (ix2 ⟨x, h⟩ y)
        else if h : (x : ℕ) - 1 < 1 then Ideal.div (b (ix2 ⟨(x : ℕ) - 1, h⟩ y)) (d (ix2 ⟨(x : ℕ) - 1, h⟩ y))
        else if h : (x : ℕ) - 1 - 1 < 1 then
          Ideal.div (∑ j : Fin 5, T (ix2 ⟨10 + j, by omega⟩ y)) (Ideal.ofBits FTy.f32 1084227584#32)
        else if h : (x : ℕ) - 1 - 1 - 1 < 1 then
          Ideal.div (∑ j : Fin 5, T (ix2 ⟨15 + j, by omega⟩ y)) (Ideal.ofBits FTy.f32 1084227584#32)
        else Ideal.div (∑ j : Fin 5, T (ix2 ⟨20 + j, by omega⟩ y)) (Ideal.ofBits FTy.f32 1084227584#32)) = fives T x y := by
    intro x y
    fin_vals x with hx
    all_goals simp only [hx, Nat.reduceSub, Nat.reduceLT, ↓reduceDIte]
    · exact (ha y).trans (congrArg (fives T · y) (Fin.ext hx.symm))
    · exact (hb y).trans (congrArg (fives T · y) (Fin.ext hx.symm))
    all_goals
      simp only [fives, hx]
  simp only [Region3.mask_bit, L]
  rfl

/-- The masked support, from the kernel's payloads. -/
theorem support_at (v0 : Vec Ideal S5x640x441 .f32) (hs : ∀ w p, Long fun c => v0 (ix3 w c p)) (w : Fin 5) (c : Fin 640) (p : Fin 441) :
    k0_pay29 (k0_pay1 v0) (k0_pay25 (k0_pay1 v0) (k0_pay2 v0) (k0_pay3 v0) (k0_pay4 v0) (k0_pay5 v0) (k0_pay6 v0) (k0_pay8 (k0_pay7 v0)) (k0_pay9 (k0_pay1 v0)) (k0_pay10 (k0_pay1 v0)) (k0_pay11 (k0_pay1 v0)) (k0_pay12 (k0_pay1 v0)) (k0_pay13 (k0_pay1 v0)) (k0_pay14 (k0_pay1 v0)) (k0_pay15 (k0_pay1 v0)) (k0_pay17 (k0_pay1 v0) (k0_pay16 (k0_pay1 v0))) (k0_pay18 (k0_pay1 v0)) (k0_pay19 (k0_pay1 v0)) (k0_pay20 (k0_pay1 v0)) (k0_pay21 (k0_pay1 v0)) (k0_pay22 (k0_pay1 v0)) (k0_pay23 (k0_pay1 v0)) (k0_pay24 (k0_pay1 v0))) (k0_pay26 (k0_pay1 v0) (k0_pay2 v0) (k0_pay3 v0) (k0_pay4 v0) (k0_pay5 v0) (k0_pay6 v0) (k0_pay8 (k0_pay7 v0)) (k0_pay9 (k0_pay1 v0)) (k0_pay10 (k0_pay1 v0)) (k0_pay11 (k0_pay1 v0)) (k0_pay12 (k0_pay1 v0)) (k0_pay13 (k0_pay1 v0)) (k0_pay14 (k0_pay1 v0)) (k0_pay15 (k0_pay1 v0)) (k0_pay17 (k0_pay1 v0) (k0_pay16 (k0_pay1 v0))) (k0_pay18 (k0_pay1 v0)) (k0_pay19 (k0_pay1 v0)) (k0_pay20 (k0_pay1 v0)) (k0_pay21 (k0_pay1 v0)) (k0_pay22 (k0_pay1 v0)) (k0_pay23 (k0_pay1 v0)) (k0_pay24 (k0_pay1 v0))) (k0_pay27 (k0_pay1 v0) (k0_pay2 v0) (k0_pay3 v0) (k0_pay4 v0) (k0_pay5 v0) (k0_pay6 v0) (k0_pay8 (k0_pay7 v0)) (k0_pay9 (k0_pay1 v0)) (k0_pay10 (k0_pay1 v0)) (k0_pay11 (k0_pay1 v0)) (k0_pay12 (k0_pay1 v0)) (k0_pay13 (k0_pay1 v0)) (k0_pay14 (k0_pay1 v0)) (k0_pay15 (k0_pay1 v0)) (k0_pay17 (k0_pay1 v0) (k0_pay16 (k0_pay1 v0))) (k0_pay18 (k0_pay1 v0)) (k0_pay19 (k0_pay1 v0)) (k0_pay20 (k0_pay1 v0)) (k0_pay21 (k0_pay1 v0)) (k0_pay22 (k0_pay1 v0)) (k0_pay23 (k0_pay1 v0)) (k0_pay24 (k0_pay1 v0))) k0_pay28 (ix3 w c p)
      = support (fun w c p => v0 (ix3 w c p)) w c p := by
  rw [masked_at]
  · have hN : (fun w c p => k0_pay1 v0 (ix3 w c p)) = fun w c p => unitVec (fun c => v0 (ix3 w c p)) c := by
      funext w c p; exact unit_at v0 hs w c p
    have hF : fives (k0_pay25 (k0_pay1 v0) (k0_pay2 v0) (k0_pay3 v0) (k0_pay4 v0) (k0_pay5 v0) (k0_pay6 v0) (k0_pay8 (k0_pay7 v0)) (k0_pay9 (k0_pay1 v0)) (k0_pay10 (k0_pay1 v0)) (k0_pay11 (k0_pay1 v0)) (k0_pay12 (k0_pay1 v0)) (k0_pay13 (k0_pay1 v0)) (k0_pay14 (k0_pay1 v0)) (k0_pay15 (k0_pay1 v0)) (k0_pay17 (k0_pay1 v0) (k0_pay16 (k0_pay1 v0))) (k0_pay18 (k0_pay1 v0)) (k0_pay19 (k0_pay1 v0)) (k0_pay20 (k0_pay1 v0)) (k0_pay21 (k0_pay1 v0)) (k0_pay22 (k0_pay1 v0)) (k0_pay23 (k0_pay1 v0)) (k0_pay24 (k0_pay1 v0))) = fun i => agg fun j p => dot (fun c => unitVec (fun c => v0 (ix3 i c p)) c) (fun c => unitVec (fun c => v0 (ix3 j c p)) c) := by
      funext i p
      unfold fives agg
      refine congrArg (Ideal.div · _) (Finset.sum_congr rfl fun j _ => ?_)
      rw [soft_at, hN]
      have h1 : (5 * i.val + j.val) / 5 = i.val := by omega
      have h2 : (5 * i.val + j.val) % 5 = j.val := by omega
      simp only [pair, h1, h2]
    rw [hF, unit_at v0 hs]
    rfl
  · intro p
    pointwise [k0_pay26]
    simp only [fives]
    rfl
  · intro p
    pointwise [k0_pay27, k0_pay28]
    simp only [fives]
    rfl

end Cert.Dn4.Region0

end
-- ==== Proof.Region0Out.lean ====
/- What the first and the third stage leave in their buffers. -/
module

public import proofs.«01_k».proof.Proof.Region0

@[expose] public section

set_option maxRecDepth 16384

noncomputable section

namespace Cert.Dn4.Region0

open Cert.KernelIdeal Cert.KernelIdeal.Gen
open Idealize.ShloMosaic Idealize.ShloMosaic.TcCoe Idealize.SL.Sem

theorem zero3 : (![0, 0, 0] : Fin 3 → ℕ) = fun _ => 0 := by funext a; fin_cases a <;> rfl
theorem zero2 : (![0, 0] : Fin 2 → ℕ) = fun _ => 0 := by funext a; fin_cases a <;> rfl

/-- The masked support is stored. -/
theorem out1_at (x0 : Vec Ideal S5x640x441 .f32) (hs : ∀ w p, Long fun c => x0 (ix3 w c p)) (w : Fin 5) (c : Fin 640) (p : Fin 441) :
    out0_1 x0 (ix3 w c p) = support (fun w c p => x0 (ix3 w c p)) w c p := by
  unfold_out out0_1
  rw [View.canon_unit_zero zero3, View.ld_unit_zero zero3]
  exact support_at x0 hs w c p

/-- It is stored again in the narrower format. -/
theorem out2_at (x0 : Vec Ideal S5x640x441 .f32) (hs : ∀ w p, Long fun c => x0 (ix3 w c p)) (w : Fin 5) (c : Fin 640) (p : Fin 441) :
    out0_2 x0 (ix3 w c p) = support (fun w c p => x0 (ix3 w c p)) w c p := by
  unfold_out out0_2
  rw [View.canon_unit_zero zero3, View.ld_unit_zero zero3]
  exact support_at x0 hs w c p

end Cert.Dn4.Region0

namespace Cert.Dn4.Region2

open Cert.KernelIdeal Cert.KernelIdeal.Gen
open Idealize.ShloMosaic Idealize.ShloMosaic.TcCoe Idealize.SL.Sem

/-- The sum over the whole table of 64 by 441. -/
theorem total (f : S1x64x1x441.Idx → EReal) (j : S1.Idx) :
    Ideal.reduceAdd reduces_S1x64x1x441_S1 f j = ∑ q : Fin 64, ∑ p : Fin 441, f (ix4 0 q 0 p) := by
  rw [Ideal.reduceAdd_total _ (by decide), sum_idx4]
  simp

/-- The queries' threshold. -/
theorem out_at (x0 : Vec Ideal S64x1x441 .f32) :
    out2_1 x0 (ix2 0 0)
      = thr (Ideal.ofBits .f32 0x46DC8000#32) (Ideal.ofBits .f32 0x46DC7E00#32) fun (q : Fin 64) p => x0 (ix3 q 0 p) := by
  unfold out2_1
  rw [View.canon_unit_zero Region0.zero2, View.ld_unit_zero Region0.zero3]
  pointwise [k2_pay1]
  simp only [total]
  pointwise
  rfl

end Cert.Dn4.Region2

end
-- ==== Proof.Region1.lean ====
/- One query of the second stage over abstract chunks of 64 channels: the reciprocal of its norm, its inner products with the
   five supports, and what they are when the chunks are those of one descriptor. -/
module

public import proofs.«01_k».proof.Proof.Unit
public import proofs.«01_k».proof.Proof.Region3

@[expose] public section

set_option maxRecDepth 16384

noncomputable section

namespace Cert.Dn4.Region1

open Cert.KernelIdeal Cert.KernelIdeal.Gen
open Idealize.ShloMosaic Idealize.ShloMosaic.TcCoe Idealize.SL.Sem

/-- The sum of the squares, chunk after chunk. -/
def squares (X : Fin 10 → Vec Ideal S1x64x441 .f32) (p : Fin 441) : EReal :=
  (∑ c, X 0 (ix3 0 c p) * X 0 (ix3 0 c p)) + (∑ c, X 1 (ix3 0 c p) * X 1 (ix3 0 c p)) + (∑ c, X 2 (ix3 0 c p) * X 2 (ix3 0 c p)) + (∑ c, X 3 (ix3 0 c p) * X 3 (ix3 0 c p)) + (∑ c, X 4 (ix3 0 c p) * X 4 (ix3 0 c p)) + (∑ c, X 5 (ix3 0 c p) * X 5 (ix3 0 c p)) + (∑ c, X 6 (ix3 0 c p) * X 6 (ix3 0 c p)) + (∑ c, X 7 (ix3 0 c p) * X 7 (ix3 0 c p)) + (∑ c, X 8 (ix3 0 c p) * X 8 (ix3 0 c p)) + (∑ c, X 9 (ix3 0 c p) * X 9 (ix3 0 c p))

/-- The inner product with support `w`, chunk after chunk; `v` holds the reciprocals of the norms. -/
def sims (X : Fin 10 → Vec Ideal S1x64x441 .f32) (v : FVec Ideal S1x441 .f32) (M : Fin 5 → Fin 10 → Vec Ideal S1x64x441 .f32)
    (w : Fin 5) (p : Fin 441) : EReal :=
  (∑ c, X 0 (ix3 0 c p) * v (ix2 0 p) * M w 0 (ix3 0 c p)) + (∑ c, X 1 (ix3 0 c p) * v (ix2 0 p) * M w 1 (ix3 0 c p)) + (∑ c, X 2 (ix3 0 c p) * v (ix2 0 p) * M w 2 (ix3 0 c p)) + (∑ c, X 3 (ix3 0 c p) * v (ix2 0 p) * M w 3 (ix3 0 c p)) + (∑ c, X 4 (ix3 0 c p) * v (ix2 0 p) * M w 4 (ix3 0 c p)) + (∑ c, X 5 (ix3 0 c p) * v (ix2 0 p) * M w 5 (ix3 0 c p)) + (∑ c, X 6 (ix3 0 c p) * v (ix2 0 p) * M w 6 (ix3 0 c p)) + (∑ c, X 7 (ix3 0 c p) * v (ix2 0 p) * M w 7 (ix3 0 c p)) + (∑ c, X 8 (ix3 0 c p) * v (ix2 0 p) * M w 8 (ix3 0 c p)) + (∑ c, X 9 (ix3 0 c p) * v (ix2 0 p) * M w 9 (ix3 0 c p))

/-- What the kernel multiplies by: one over the norm, the norm floored. -/
def recip (X : Fin 10 → Vec Ideal S1x64x441 .f32) (p : Fin 441) : EReal :=
  Ideal.div 1 (max (Ideal.sqrt (squares X p)) (Ideal.ofBits .f32 0x0DA24260#32))

/-- Channel `c` of chunk `t`. -/
def chan (t : Fin 10) (c : Fin 64) : Fin 640 := ⟨t.val * 64 + c.val, by omega⟩

theorem sum_chunks (f : Fin 640 → EReal) :
    (∑ k, f k) = (∑ c, f (chan 0 c)) + (∑ c, f (chan 1 c)) + (∑ c, f (chan 2 c)) + (∑ c, f (chan 3 c)) + (∑ c, f (chan 4 c)) + (∑ c, f (chan 5 c)) + (∑ c, f (chan 6 c)) + (∑ c, f (chan 7 c)) + (∑ c, f (chan 8 c)) + (∑ c, f (chan 9 c)) := by
  rw [Fin.sum_univ_tiles 10 64 rfl f]
  simp only [Fin.sum_univ_succ, Fin.sum_univ_zero, add_zero, add_assoc]
  rfl

section

variable (x : Fin 640 → Fin 441 → EReal) (y : Fin 5 → Fin 640 → Fin 441 → EReal)
  (X : Fin 10 → Vec Ideal S1x64x441 .f32) (M : Fin 5 → Fin 10 → Vec Ideal S1x64x441 .f32) (V : FVec Ideal S1x441 .f32)
  (hX : ∀ t c p, X t (ix3 0 c p) = x (chan t c) p) (hM : ∀ w t c p, M w t (ix3 0 c p) = y w (chan t c) p)
  (hV : ∀ p, V (ix2 0 p) = recip X p) (hx : ∀ p, Long fun c => x c p)

include hX

theorem squares_eq (p : Fin 441) : squares X p = ssq fun c => x c p := by
  unfold squares ssq
  rw [sum_chunks]
  simp only [hX]

include hx

theorem recip_eq (p : Fin 441) : recip X p = Ideal.div 1 (nrm fun c => x c p) := by
  unfold recip
  rw [squares_eq x X hX]
  exact congrArg (Ideal.div 1) (nrm_floor (hx p))

include hV

theorem scaled_eq (t : Fin 10) (c : Fin 64) (p : Fin 441) :
    X t (ix3 0 c p) * V (ix2 0 p) = unitVec (fun c => x c p) (chan t c) := by
  rw [hV, recip_eq x X hX hx, hX]
  exact mul_recip (hx p) _

include hM

theorem sims_eq : sims X V M = fun w p => dot (unitVec fun c => x c p) (fun c => y w c p) := by
  funext w p
  unfold sims dot
  rw [sum_chunks]
  simp only [scaled_eq x X V hX hV hx, hM]

/-- A query's block of averages, at any index. -/
theorem row_of (f : S1x1x441.Idx → EReal) (hf : ∀ p, f (ix3 0 0 p) = agg (sims X V M) p) (j : S1x1x441.Idx) (p : Fin 441)
    (hj : (j 2).val = p.val) : f j = queryAgg x y p := by
  have : j = ix3 0 0 p := by
    funext a
    fin_cases a
    · exact Subsingleton.elim (α := Fin 1) _ _
    · exact Subsingleton.elim (α := Fin 1) _ _
    · exact Fin.ext hj
  rw [this, hf, sims_eq x y X M V hX hM hV hx]
  rfl

omit hM

/-- A chunk of the scaled query, at any index. -/
theorem chunk_of (t : Fin 10) (f : S1x64x441.Idx → EReal) (hf : ∀ c p, f (ix3 0 c p) = X t (ix3 0 c p) * V (ix2 0 p))
    (j : S1x64x441.Idx) (c : Fin 640) (p : Fin 441) (hc : c.val = t.val * 64 + (j 1).val) (hj : (j 2).val = p.val) :
    f j = unitVec (fun c => x c p) c := by
  have hj1 : (j 1).val < 64 := (j 1).isLt
  have : j = ix3 0 ⟨(j 1).val, hj1⟩ p := by
    funext a
    fin_cases a
    · exact Subsingleton.elim (α := Fin 1) _ _
    · rfl
    · exact Fin.ext hj
  have hc' : c = chan t ⟨(j 1).val, hj1⟩ := Fin.ext hc
  rw [this, hf, scaled_eq x X V hX hV hx, hc']

end

/-- The five inner products, picked by the support's number. -/
theorem ladder (X : Fin 10 → Vec Ideal S1x64x441 .f32) (V : FVec Ideal S1x441 .f32)
    (M : Fin 5 → Fin 10 → Vec Ideal S1x64x441 .f32) (x : Fin 5) (y : Fin 441) :
    (if h : (x:ℕ) < 1 then sims X V M 0 y else if h : (x:ℕ) - 1 < 1 then sims X V M 1 y
      else if h : (x:ℕ) - 1 - 1 < 1 then sims X V M 2 y else if h : (x:ℕ) - 1 - 1 - 1 < 1 then sims X V M 3 y
      else sims X V M 4 y) = sims X V M x y := by
  fin_cases x <;> rfl

end Cert.Dn4.Region1

end
-- ==== Proof.Region1Rows0.lean ====
/- The second stage on queries 0 to 1 of a block of eight: the kernel's own terms. -/
module

public import proofs.«01_k».proof.Proof.Region1

@[expose] public section

set_option maxRecDepth 16384

noncomputable section

namespace Cert.Dn4.Region1

open Cert.KernelIdeal Cert.KernelIdeal.Gen
open Idealize.ShloMosaic Idealize.ShloMosaic.TcCoe Idealize.SL.Sem

theorem recip0 (X : Fin 10 → Vec Ideal S1x64x441 .f32) (p : Fin 441) : (k1_pay3 (k1_pay2 (X 0) (X 1) (X 2) (X 3) (X 4) (X 5)) (X 6) (X 7) (X 8) (X 9)) (ix2 0 p) = recip X p := by
  pointwise [k1_pay2, k1_pay3]
  rfl

theorem chunk0_0 (X : Fin 10 → Vec Ideal S1x64x441 .f32) (c : Fin 64) (p : Fin 441) :
    k1_pay6 (k1_pay5 (k1_pay2 (X 0) (X 1) (X 2) (X 3) (X 4) (X 5)) (X 6) (X 7) (X 8) (X 9) (X 0)) (ix3 0 c p) = X 0 (ix3 0 c p) * (k1_pay3 (k1_pay2 (X 0) (X 1) (X 2) (X 3) (X 4) (X 5)) (X 6) (X 7) (X 8) (X 9)) (ix2 0 p) := by
  pointwise [k1_pay4, k1_pay5, k1_pay6]

theorem chunk0_1 (X : Fin 10 → Vec Ideal S1x64x441 .f32) (c : Fin 64) (p : Fin 441) :
    k1_pay14 (k1_pay13 (k1_pay3 (k1_pay2 (X 0) (X 1) (X 2) (X 3) (X 4) (X 5)) (X 6) (X 7) (X 8) (X 9)) (X 1)) (ix3 0 c p) = X 1 (ix3 0 c p) * (k1_pay3 (k1_pay2 (X 0) (X 1) (X 2) (X 3) (X 4) (X 5)) (X 6) (X 7) (X 8) (X 9)) (ix2 0 p) := by
  pointwise [k1_pay12, k1_pay13, k1_pay14]

theorem chunk0_2 (X : Fin 10 → Vec Ideal S1x64x441 .f32) (c : Fin 64) (p : Fin 441) :
    k1_pay22 (k1_pay21 (k1_pay3 (k1_pay2 (X 0) (X 1) (X 2) (X 3) (X 4) (X 5)) (X 6) (X 7) (X 8) (X 9)) (X 2)) (ix3 0 c p) = X 2 (ix3 0 c p) * (k1_pay3 (k1_pay2 (X 0) (X 1) (X 2) (X 3) (X 4) (X 5)) (X 6) (X 7) (X 8) (X 9)) (ix2 0 p) := by
  pointwise [k1_pay20, k1_pay21, k1_pay22]

theorem chunk0_3 (X : Fin 10 → Vec Ideal S1x64x441 .f32) (c : Fin 64) (p : Fin 441) :
    k1_pay29 (k1_pay3 (k1_pay2 (X 0) (X 1) (X 2) (X 3) (X 4) (X 5)) (X 6) (X 7) (X 8) (X 9)) (X 3) (ix3 0 c p) = X 3 (ix3 0 c p) * (k1_pay3 (k1_pay2 (X 0) (X 1) (X 2) (X 3) (X 4) (X 5)) (X 6) (X 7) (X 8) (X 9)) (ix2 0 p) := by
  pointwise [k1_pay28, k1_pay29]

theorem chunk0_4 (X : Fin 10 → Vec Ideal S1x64x441 .f32) (c : Fin 64) (p : Fin 441) :
    k1_pay37 (k1_pay3 (k1_pay2 (X 0) (X 1) (X 2) (X 3) (X 4) (X 5)) (X 6) (X 7) (X 8) (X 9)) (X 4) (ix3 0 c p) = X 4 (ix3 0 c p) * (k1_pay3 (k1_pay2 (X 0) (X 1) (X 2) (X 3) (X 4) (X 5)) (X 6) (X 7) (X 8) (X 9)) (ix2 0 p) := by
  pointwise [k1_pay36, k1_pay37]

theorem chunk0_5 (X : Fin 10 → Vec Ideal S1x64x441 .f32) (c : Fin 64) (p : Fin 441) :
    k1_pay44 (k1_pay3 (k1_pay2 (X 0) (X 1) (X 2) (X 3) (X 4) (X 5)) (X 6) (X 7) (X 8) (X 9)) (X 5) (ix3 0 c p) = X 5 (ix3 0 c p) * (k1_pay3 (k1_pay2 (X 0) (X 1) (X 2) (X 3) (X 4) (X 5)) (X 6) (X 7) (X 8) (X 9)) (ix2 0 p) := by
  pointwise [k1_pay43, k1_pay44]

theorem chunk0_6 (X : Fin 10 → Vec Ideal S1x64x441 .f32) (c : Fin 64) (p : Fin 441) :
    k1_pay52 (k1_pay3 (k1_pay2 (X 0) (X 1) (X 2) (X 3) (X 4) (X 5)) (X 6) (X 7) (X 8) (X 9)) (X 6) (ix3 0 c p) = X 6 (ix3 0 c p) * (k1_pay3 (k1_pay2 (X 0) (X 1) (X 2) (X 3) (X 4) (X 5)) (X 6) (X 7) (X 8) (X 9)) (ix2 0 p) := by
  pointwise [k1_pay51, k1_pay52]

theorem chunk0_7 (X : Fin 10 → Vec Ideal S1x64x441 .f32) (c : Fin 64) (p : Fin 441) :
    k1_pay59 (k1_pay3 (k1_pay2 (X 0) (X 1) (X 2) (X 3) (X 4) (X 5)) (X 6) (X 7) (X 8) (X 9)) (X 7) (ix3 0 c p) = X 7 (ix3 0 c p) * (k1_pay3 (k1_pay2 (X 0) (X 1) (X 2) (X 3) (X 4) (X 5)) (X 6) (X 7) (X 8) (X 9)) (ix2 0 p) := by
  pointwise [k1_pay58, k1_pay59]

theorem chunk0_8 (X : Fin 10 → Vec Ideal S1x64x441 .f32) (c : Fin 64) (p : Fin 441) :
    k1_pay67 (k1_pay3 (k1_pay2 (X 0) (X 1) (X 2) (X 3) (X 4) (X 5)) (X 6) (X 7) (X 8) (X 9)) (X 8) (ix3 0 c p) = X 8 (ix3 0 c p) * (k1_pay3 (k1_pay2 (X 0) (X 1) (X 2) (X 3) (X 4) (X 5)) (X 6) (X 7) (X 8) (X 9)) (ix2 0 p) := by
  pointwise [k1_pay66, k1_pay67]

theorem chunk0_9 (X : Fin 10 → Vec Ideal S1x64x441 .f32) (c : Fin 64) (p : Fin 441) :
    k1_pay74 (k1_pay3 (k1_pay2 (X 0) (X 1) (X 2) (X 3) (X 4) (X 5)) (X 6) (X 7) (X 8) (X 9)) (X 9) (ix3 0 c p) = X 9 (ix3 0 c p) * (k1_pay3 (k1_pay2 (X 0) (X 1) (X 2) (X 3) (X 4) (X 5)) (X 6) (X 7) (X 8) (X 9)) (ix2 0 p) := by
  pointwise [k1_pay73, k1_pay74]

theorem row0 (X : Fin 10 → Vec Ideal S1x64x441 .f32) (M : Fin 5 → Fin 10 → Vec Ideal S1x64x441 .f32) (p : Fin 441) :
    k1_pay77 (k1_pay69 (k1_pay3 (k1_pay2 (X 0) (X 1) (X 2) (X 3) (X 4) (X 5)) (X 6) (X 7) (X 8) (X 9)) (k1_pay61 (k1_pay3 (k1_pay2 (X 0) (X 1) (X 2) (X 3) (X 4) (X 5)) (X 6) (X 7) (X 8) (X 9)) (k1_pay54 (k1_pay3 (k1_pay2 (X 0) (X 1) (X 2) (X 3) (X 4) (X 5)) (X 6) (X 7) (X 8) (X 9)) (k1_pay46 (k1_pay3 (k1_pay2 (X 0) (X 1) (X 2) (X 3) (X 4) (X 5)) (X 6) (X 7) (X 8) (X 9)) (k1_pay39 (k1_pay3 (k1_pay2 (X 0) (X 1) (X 2) (X 3) (X 4) (X 5)) (X 6) (X 7) (X 8) (X 9)) (k1_pay31 (k1_pay3 (k1_pay2 (X 0) (X 1) (X 2) (X 3) (X 4) (X 5)) (X 6) (X 7) (X 8) (X 9)) (k1_pay24 (k1_pay16 (k1_pay8 (k1_pay4 (k1_pay2 (X 0) (X 1) (X 2) (X 3) (X 4) (X 5)) (X 6) (X 7) (X 8) (X 9) (X 0)) (M 1 0)) (k1_pay12 (k1_pay3 (k1_pay2 (X 0) (X 1) (X 2) (X 3) (X 4) (X 5)) (X 6) (X 7) (X 8) (X 9)) (X 1)) (M 1 1)) (k1_pay20 (k1_pay3 (k1_pay2 (X 0) (X 1) (X 2) (X 3) (X 4) (X 5)) (X 6) (X 7) (X 8) (X 9)) (X 2)) (M 1 2)) (X 3) (M 1 3)) (X 4) (M 1 4)) (X 5) (M 1 5)) (X 6) (M 1 6)) (X 7) (M 1 7)) (X 8) (M 1 8)) (k1_pay70 (k1_pay63 (k1_pay55 (k1_pay3 (k1_pay2 (X 0) (X 1) (X 2) (X 3) (X 4) (X 5)) (X 6) (X 7) (X 8) (X 9)) (k1_pay47 (k1_pay3 (k1_pay2 (X 0) (X 1) (X 2) (X 3) (X 4) (X 5)) (X 6) (X 7) (X 8) (X 9)) (k1_pay40 (k1_pay3 (k1_pay2 (X 0) (X 1) (X 2) (X 3) (X 4) (X 5)) (X 6) (X 7) (X 8) (X 9)) (k1_pay32 (k1_pay3 (k1_pay2 (X 0) (X 1) (X 2) (X 3) (X 4) (X 5)) (X 6) (X 7) (X 8) (X 9)) (k1_pay25 (k1_pay17 (k1_pay9 (k1_pay4 (k1_pay2 (X 0) (X 1) (X 2) (X 3) (X 4) (X 5)) (X 6) (X 7) (X 8) (X 9) (X 0)) (M 2 0)) (k1_pay12 (k1_pay3 (k1_pay2 (X 0) (X 1) (X 2) (X 3) (X 4) (X 5)) (X 6) (X 7) (X 8) (X 9)) (X 1)) (M 2 1)) (k1_pay20 (k1_pay3 (k1_pay2 (X 0) (X 1) (X 2) (X 3) (X 4) (X 5)) (X 6) (X 7) (X 8) (X 9)) (X 2)) (M 2 2)) (X 3) (M 2 3)) (X 4) (M 2 4)) (X 5) (M 2 5)) (X 6) (M 2 6)) (k1_pay62 (k1_pay3 (k1_pay2 (X 0) (X 1) (X 2) (X 3) (X 4) (X 5)) (X 6) (X 7) (X 8) (X 9)) (X 7) (M 2 7))) (k1_pay66 (k1_pay3 (k1_pay2 (X 0) (X 1) (X 2) (X 3) (X 4) (X 5)) (X 6) (X 7) (X 8) (X 9)) (X 8)) (M 2 8)) (k1_pay71 (k1_pay64 (k1_pay56 (k1_pay49 (k1_pay41 (k1_pay3 (k1_pay2 (X 0) (X 1) (X 2) (X 3) (X 4) (X 5)) (X 6) (X 7) (X 8) (X 9)) (k1_pay33 (k1_pay3 (k1_pay2 (X 0) (X 1) (X 2) (X 3) (X 4) (X 5)) (X 6) (X 7) (X 8) (X 9)) (k1_pay26 (k1_pay18 (k1_pay10 (k1_pay4 (k1_pay2 (X 0) (X 1) (X 2) (X 3) (X 4) (X 5)) (X 6) (X 7) (X 8) (X 9) (X 0)) (M 3 0)) (k1_pay12 (k1_pay3 (k1_pay2 (X 0) (X 1) (X 2) (X 3) (X 4) (X 5)) (X 6) (X 7) (X 8) (X 9)) (X 1)) (M 3 1)) (k1_pay20 (k1_pay3 (k1_pay2 (X 0) (X 1) (X 2) (X 3) (X 4) (X 5)) (X 6) (X 7) (X 8) (X 9)) (X 2)) (M 3 2)) (X 3) (M 3 3)) (X 4) (M 3 4)) (k1_pay48 (k1_pay3 (k1_pay2 (X 0) (X 1) (X 2) (X 3) (X 4) (X 5)) (X 6) (X 7) (X 8) (X 9)) (X 5) (M 3 5))) (k1_pay51 (k1_pay3 (k1_pay2 (X 0) (X 1) (X 2) (X 3) (X 4) (X 5)) (X 6) (X 7) (X 8) (X 9)) (X 6)) (M 3 6)) (k1_pay58 (k1_pay3 (k1_pay2 (X 0) (X 1) (X 2) (X 3) (X 4) (X 5)) (X 6) (X 7) (X 8) (X 9)) (X 7)) (M 3 7)) (k1_pay66 (k1_pay3 (k1_pay2 (X 0) (X 1) (X 2) (X 3) (X 4) (X 5)) (X 6) (X 7) (X 8) (X 9)) (X 8)) (M 3 8)) (k1_pay72 (k1_pay65 (k1_pay57 (k1_pay50 (k1_pay42 (k1_pay35 (k1_pay27 (k1_pay19 (k1_pay11 (k1_pay4 (k1_pay2 (X 0) (X 1) (X 2) (X 3) (X 4) (X 5)) (X 6) (X 7) (X 8) (X 9) (X 0)) (M 4 0)) (k1_pay12 (k1_pay3 (k1_pay2 (X 0) (X 1) (X 2) (X 3) (X 4) (X 5)) (X 6) (X 7) (X 8) (X 9)) (X 1)) (M 4 1)) (k1_pay20 (k1_pay3 (k1_pay2 (X 0) (X 1) (X 2) (X 3) (X 4) (X 5)) (X 6) (X 7) (X 8) (X 9)) (X 2)) (M 4 2)) (k1_pay34 (k1_pay3 (k1_pay2 (X 0) (X 1) (X 2) (X 3) (X 4) (X 5)) (X 6) (X 7) (X 8) (X 9)) (X 3) (M 4 3))) (k1_pay36 (k1_pay3 (k1_pay2 (X 0) (X 1) (X 2) (X 3) (X 4) (X 5)) (X 6) (X 7) (X 8) (X 9)) (X 4)) (M 4 4)) (k1_pay43 (k1_pay3 (k1_pay2 (X 0) (X 1) (X 2) (X 3) (X 4) (X 5)) (X 6) (X 7) (X 8) (X 9)) (X 5)) (M 4 5)) (k1_pay51 (k1_pay3 (k1_pay2 (X 0) (X 1) (X 2) (X 3) (X 4) (X 5)) (X 6) (X 7) (X 8) (X 9)) (X 6)) (M 4 6)) (k1_pay58 (k1_pay3 (k1_pay2 (X 0) (X 1) (X 2) (X 3) (X 4) (X 5)) (X 6) (X 7) (X 8) (X 9)) (X 7)) (M 4 7)) (k1_pay66 (k1_pay3 (k1_pay2 (X 0) (X 1) (X 2) (X 3) (X 4) (X 5)) (X 6) (X 7) (X 8) (X 9)) (X 8)) (M 4 8)) (k1_pay73 (k1_pay3 (k1_pay2 (X 0) (X 1) (X 2) (X 3) (X 4) (X 5)) (X 6) (X 7) (X 8) (X 9)) (X 9)) (k1_pay75 (k1_pay3 (k1_pay2 (X 0) (X 1) (X 2) (X 3) (X 4) (X 5)) (X 6) (X 7) (X 8) (X 9)) (k1_pay68 (k1_pay3 (k1_pay2 (X 0) (X 1) (X 2) (X 3) (X 4) (X 5)) (X 6) (X 7) (X 8) (X 9)) (k1_pay60 (k1_pay3 (k1_pay2 (X 0) (X 1) (X 2) (X 3) (X 4) (X 5)) (X 6) (X 7) (X 8) (X 9)) (k1_pay53 (k1_pay3 (k1_pay2 (X 0) (X 1) (X 2) (X 3) (X 4) (X 5)) (X 6) (X 7) (X 8) (X 9)) (k1_pay45 (k1_pay3 (k1_pay2 (X 0) (X 1) (X 2) (X 3) (X 4) (X 5)) (X 6) (X 7) (X 8) (X 9)) (k1_pay38 (k1_pay3 (k1_pay2 (X 0) (X 1) (X 2) (X 3) (X 4) (X 5)) (X 6) (X 7) (X 8) (X 9)) (k1_pay30 (k1_pay3 (k1_pay2 (X 0) (X 1) (X 2) (X 3) (X 4) (X 5)) (X 6) (X 7) (X 8) (X 9)) (k1_pay23 (k1_pay15 (k1_pay7 (k1_pay4 (k1_pay2 (X 0) (X 1) (X 2) (X 3) (X 4) (X 5)) (X 6) (X 7) (X 8) (X 9) (X 0)) (M 0 0)) (k1_pay12 (k1_pay3 (k1_pay2 (X 0) (X 1) (X 2) (X 3) (X 4) (X 5)) (X 6) (X 7) (X 8) (X 9)) (X 1)) (M 0 1)) (k1_pay20 (k1_pay3 (k1_pay2 (X 0) (X 1) (X 2) (X 3) (X 4) (X 5)) (X 6) (X 7) (X 8) (X 9)) (X 2)) (M 0 2)) (X 3) (M 0 3)) (X 4) (M 0 4)) (X 5) (M 0 5)) (X 6) (M 0 6)) (X 7) (M 0 7)) (X 8) (M 0 8)) (X 9) (M 0 9)) (k1_pay76 (k1_pay3 (k1_pay2 (X 0) (X 1) (X 2) (X 3) (X 4) (X 5)) (X 6) (X 7) (X 8) (X 9)) (X 9) (M 1 9)) (M 2 9) (M 3 9) (M 4 9) (ix3 0 0 p) = agg (sims X (k1_pay3 (k1_pay2 (X 0) (X 1) (X 2) (X 3) (X 4) (X 5)) (X 6) (X 7) (X 8) (X 9)) M) p := by
  pointwise [k1_pay4, k1_pay7, k1_pay8, k1_pay9, k1_pay10, k1_pay11, k1_pay12, k1_pay15, k1_pay16, k1_pay17, k1_pay18, k1_pay19, k1_pay20, k1_pay23, k1_pay24, k1_pay25, k1_pay26, k1_pay27, k1_pay28, k1_pay30, k1_pay31, k1_pay32, k1_pay33, k1_pay34, k1_pay35, k1_pay36, k1_pay38, k1_pay39, k1_pay40, k1_pay41, k1_pay42, k1_pay43, k1_pay45, k1_pay46, k1_pay47, k1_pay48, k1_pay49, k1_pay50, k1_pay51, k1_pay53, k1_pay54, k1_pay55, k1_pay56, k1_pay57, k1_pay58, k1_pay60, k1_pay61, k1_pay62, k1_pay63, k1_pay64, k1_pay65, k1_pay66, k1_pay68, k1_pay69, k1_pay70, k1_pay71, k1_pay72, k1_pay73, k1_pay75, k1_pay76, k1_pay77]
  generalize (k1_pay3 (k1_pay2 (X 0) (X 1) (X 2) (X 3) (X 4) (X 5)) (X 6) (X 7) (X 8) (X 9)) = V
  have L := ladder X V M
  simp only [sims] at L
  simp only [L, bits_neg_inf, agg, softmax, rowMax, sims]
  rfl

theorem recip1 (X : Fin 10 → Vec Ideal S1x64x441 .f32) (p : Fin 441) : (k1_pay79 (k1_pay78 (X 0) (X 1) (X 2) (X 3) (X 4) (X 5)) (X 6) (X 7) (X 8) (X 9)) (ix2 0 p) = recip X p := by
  pointwise [k1_pay78, k1_pay79]
  rfl

theorem chunk1_0 (X : Fin 10 → Vec Ideal S1x64x441 .f32) (c : Fin 64) (p : Fin 441) :
    k1_pay81 (k1_pay78 (X 0) (X 1) (X 2) (X 3) (X 4) (X 5)) (X 6) (X 7) (X 8) (X 9) (X 0) (ix3 0 c p) = X 0 (ix3 0 c p) * (k1_pay79 (k1_pay78 (X 0) (X 1) (X 2) (X 3) (X 4) (X 5)) (X 6) (X 7) (X 8) (X 9)) (ix2 0 p) := by
  pointwise [k1_pay80, k1_pay81]

theorem chunk1_1 (X : Fin 10 → Vec Ideal S1x64x441 .f32) (c : Fin 64) (p : Fin 441) :
    k1_pay88 (k1_pay79 (k1_pay78 (X 0) (X 1) (X 2) (X 3) (X 4) (X 5)) (X 6) (X 7) (X 8) (X 9)) (X 1) (ix3 0 c p) = X 1 (ix3 0 c p) * (k1_pay79 (k1_pay78 (X 0) (X 1) (X 2) (X 3) (X 4) (X 5)) (X 6) (X 7) (X 8) (X 9)) (ix2 0 p) := by
  pointwise [k1_pay87, k1_pay88]

theorem chunk1_2 (X : Fin 10 → Vec Ideal S1x64x441 .f32) (c : Fin 64) (p : Fin 441) :
    k1_pay96 (k1_pay95 (k1_pay79 (k1_pay78 (X 0) (X 1) (X 2) (X 3) (X 4) (X 5)) (X 6) (X 7) (X 8) (X 9)) (X 2)) (ix3 0 c p) = X 2 (ix3 0 c p) * (k1_pay79 (k1_pay78 (X 0) (X 1) (X 2) (X 3) (X 4) (X 5)) (X 6) (X 7) (X 8) (X 9)) (ix2 0 p) := by
  pointwise [k1_pay94, k1_pay95, k1_pay96]

theorem chunk1_3 (X : Fin 10 → Vec Ideal S1x64x441 .f32) (c : Fin 64) (p : Fin 441) :
    k1_pay103 (k1_pay102 (k1_pay79 (k1_pay78 (X 0) (X 1) (X 2) (X 3) (X 4) (X 5)) (X 6) (X 7) (X 8) (X 9)) (X 3)) (ix3 0 c p) = X 3 (ix3 0 c p) * (k1_pay79 (k1_pay78 (X 0) (X 1) (X 2) (X 3) (X 4) (X 5)) (X 6) (X 7) (X 8) (X 9)) (ix2 0 p) := by
  pointwise [k1_pay102, k1_pay103]

theorem chunk1_4 (X : Fin 10 → Vec Ideal S1x64x441 .f32) (c : Fin 64) (p : Fin 441) :
    k1_pay110 (k1_pay79 (k1_pay78 (X 0) (X 1) (X 2) (X 3) (X 4) (X 5)) (X 6) (X 7) (X 8) (X 9)) (X 4) (ix3 0 c p) = X 4 (ix3 0 c p) * (k1_pay79 (k1_pay78 (X 0) (X 1) (X 2) (X 3) (X 4) (X 5)) (X 6) (X 7) (X 8) (X 9)) (ix2 0 p) := by
  pointwise [k1_pay109, k1_pay110]

theorem chunk1_5 (X : Fin 10 → Vec Ideal S1x64x441 .f32) (c : Fin 64) (p : Fin 441) :
    k1_pay118 (k1_pay79 (k1_pay78 (X 0) (X 1) (X 2) (X 3) (X 4) (X 5)) (X 6) (X 7) (X 8) (X 9)) (X 5) (ix3 0 c p) = X 5 (ix3 0 c p) * (k1_pay79 (k1_pay78 (X 0) (X 1) (X 2) (X 3) (X 4) (X 5)) (X 6) (X 7) (X 8) (X 9)) (ix2 0 p) := by
  pointwise [k1_pay117, k1_pay118]

theorem chunk1_6 (X : Fin 10 → Vec Ideal S1x64x441 .f32) (c : Fin 64) (p : Fin 441) :
    k1_pay125 (k1_pay79 (k1_pay78 (X 0) (X 1) (X 2) (X 3) (X 4) (X 5)) (X 6) (X 7) (X 8) (X 9)) (X 6) (ix3 0 c p) = X 6 (ix3 0 c p) * (k1_pay79 (k1_pay78 (X 0) (X 1) (X 2) (X 3) (X 4) (X 5)) (X 6) (X 7) (X 8) (X 9)) (ix2 0 p) := by
  pointwise [k1_pay124, k1_pay125]

theorem chunk1_7 (X : Fin 10 → Vec Ideal S1x64x441 .f32) (c : Fin 64) (p : Fin 441) :
    k1_pay133 (k1_pay79 (k1_pay78 (X 0) (X 1) (X 2) (X 3) (X 4) (X 5)) (X 6) (X 7) (X 8) (X 9)) (X 7) (ix3 0 c p) = X 7 (ix3 0 c p) * (k1_pay79 (k1_pay78 (X 0) (X 1) (X 2) (X 3) (X 4) (X 5)) (X 6) (X 7) (X 8) (X 9)) (ix2 0 p) := by
  pointwise [k1_pay132, k1_pay133]

theorem chunk1_8 (X : Fin 10 → Vec Ideal S1x64x441 .f32) (c : Fin 64) (p : Fin 441) :
    k1_pay140 (k1_pay79 (k1_pay78 (X 0) (X 1) (X 2) (X 3) (X 4) (X 5)) (X 6) (X 7) (X 8) (X 9)) (X 8) (ix3 0 c p) = X 8 (ix3 0 c p) * (k1_pay79 (k1_pay78 (X 0) (X 1) (X 2) (X 3) (X 4) (X 5)) (X 6) (X 7) (X 8) (X 9)) (ix2 0 p) := by
  pointwise [k1_pay139, k1_pay140]

theorem chunk1_9 (X : Fin 10 → Vec Ideal S1x64x441 .f32) (c : Fin 64) (p : Fin 441) :
    k1_pay148 (k1_pay79 (k1_pay78 (X 0) (X 1) (X 2) (X 3) (X 4) (X 5)) (X 6) (X 7) (X 8) (X 9)) (X 9) (ix3 0 c p) = X 9 (ix3 0 c p) * (k1_pay79 (k1_pay78 (X 0) (X 1) (X 2) (X 3) (X 4) (X 5)) (X 6) (X 7) (X 8) (X 9)) (ix2 0 p) := by
  pointwise [k1_pay147, k1_pay148]

theorem row1 (X : Fin 10 → Vec Ideal S1x64x441 .f32) (M : Fin 5 → Fin 10 → Vec Ideal S1x64x441 .f32) (p : Fin 441) :
    k1_pay151 (k1_pay144 (k1_pay136 (k1_pay79 (k1_pay78 (X 0) (X 1) (X 2) (X 3) (X 4) (X 5)) (X 6) (X 7) (X 8) (X 9)) (k1_pay128 (k1_pay79 (k1_pay78 (X 0) (X 1) (X 2) (X 3) (X 4) (X 5)) (X 6) (X 7) (X 8) (X 9)) (k1_pay121 (k1_pay79 (k1_pay78 (X 0) (X 1) (X 2) (X 3) (X 4) (X 5)) (X 6) (X 7) (X 8) (X 9)) (k1_pay113 (k1_pay79 (k1_pay78 (X 0) (X 1) (X 2) (X 3) (X 4) (X 5)) (X 6) (X 7) (X 8) (X 9)) (k1_pay106 (k1_pay99 (k1_pay91 (k1_pay84 (k1_pay80 (k1_pay78 (X 0) (X 1) (X 2) (X 3) (X 4) (X 5)) (X 6) (X 7) (X 8) (X 9) (X 0)) (M 2 0)) (k1_pay87 (k1_pay79 (k1_pay78 (X 0) (X 1) (X 2) (X 3) (X 4) (X 5)) (X 6) (X 7) (X 8) (X 9)) (X 1)) (M 2 1)) (k1_pay94 (k1_pay79 (k1_pay78 (X 0) (X 1) (X 2) (X 3) (X 4) (X 5)) (X 6) (X 7) (X 8) (X 9)) (X 2)) (M 2 2)) (k1_pay102 (k1_pay79 (k1_pay78 (X 0) (X 1) (X 2) (X 3) (X 4) (X 5)) (X 6) (X 7) (X 8) (X 9)) (X 3)) (M 2 3)) (X 4) (M 2 4)) (X 5) (M 2 5)) (X 6) (M 2 6)) (X 7) (M 2 7)) (k1_pay143 (k1_pay79 (k1_pay78 (X 0) (X 1) (X 2) (X 3) (X 4) (X 5)) (X 6) (X 7) (X 8) (X 9)) (X 8) (M 2 8))) (k1_pay145 (k1_pay137 (k1_pay130 (k1_pay122 (k1_pay79 (k1_pay78 (X 0) (X 1) (X 2) (X 3) (X 4) (X 5)) (X 6) (X 7) (X 8) (X 9)) (k1_pay114 (k1_pay79 (k1_pay78 (X 0) (X 1) (X 2) (X 3) (X 4) (X 5)) (X 6) (X 7) (X 8) (X 9)) (k1_pay107 (k1_pay100 (k1_pay92 (k1_pay85 (k1_pay80 (k1_pay78 (X 0) (X 1) (X 2) (X 3) (X 4) (X 5)) (X 6) (X 7) (X 8) (X 9) (X 0)) (M 3 0)) (k1_pay87 (k1_pay79 (k1_pay78 (X 0) (X 1) (X 2) (X 3) (X 4) (X 5)) (X 6) (X 7) (X 8) (X 9)) (X 1)) (M 3 1)) (k1_pay94 (k1_pay79 (k1_pay78 (X 0) (X 1) (X 2) (X 3) (X 4) (X 5)) (X 6) (X 7) (X 8) (X 9)) (X 2)) (M 3 2)) (k1_pay102 (k1_pay79 (k1_pay78 (X 0) (X 1) (X 2) (X 3) (X 4) (X 5)) (X 6) (X 7) (X 8) (X 9)) (X 3)) (M 3 3)) (X 4) (M 3 4)) (X 5) (M 3 5)) (k1_pay129 (k1_pay79 (k1_pay78 (X 0) (X 1) (X 2) (X 3) (X 4) (X 5)) (X 6) (X 7) (X 8) (X 9)) (X 6) (M 3 6))) (k1_pay132 (k1_pay79 (k1_pay78 (X 0) (X 1) (X 2) (X 3) (X 4) (X 5)) (X 6) (X 7) (X 8) (X 9)) (X 7)) (M 3 7)) (k1_pay139 (k1_pay79 (k1_pay78 (X 0) (X 1) (X 2) (X 3) (X 4) (X 5)) (X 6) (X 7) (X 8) (X 9)) (X 8)) (M 3 8)) (k1_pay146 (k1_pay138 (k1_pay131 (k1_pay123 (k1_pay116 (k1_pay108 (k1_pay101 (k1_pay93 (k1_pay86 (k1_pay80 (k1_pay78 (X 0) (X 1) (X 2) (X 3) (X 4) (X 5)) (X 6) (X 7) (X 8) (X 9) (X 0)) (M 4 0)) (k1_pay87 (k1_pay79 (k1_pay78 (X 0) (X 1) (X 2) (X 3) (X 4) (X 5)) (X 6) (X 7) (X 8) (X 9)) (X 1)) (M 4 1)) (k1_pay94 (k1_pay79 (k1_pay78 (X 0) (X 1) (X 2) (X 3) (X 4) (X 5)) (X 6) (X 7) (X 8) (X 9)) (X 2)) (M 4 2)) (k1_pay102 (k1_pay79 (k1_pay78 (X 0) (X 1) (X 2) (X 3) (X 4) (X 5)) (X 6) (X 7) (X 8) (X 9)) (X 3)) (M 4 3)) (k1_pay115 (k1_pay79 (k1_pay78 (X 0) (X 1) (X 2) (X 3) (X 4) (X 5)) (X 6) (X 7) (X 8) (X 9)) (X 4) (M 4 4))) (k1_pay117 (k1_pay79 (k1_pay78 (X 0) (X 1) (X 2) (X 3) (X 4) (X 5)) (X 6) (X 7) (X 8) (X 9)) (X 5)) (M 4 5)) (k1_pay124 (k1_pay79 (k1_pay78 (X 0) (X 1) (X 2) (X 3) (X 4) (X 5)) (X 6) (X 7) (X 8) (X 9)) (X 6)) (M 4 6)) (k1_pay132 (k1_pay79 (k1_pay78 (X 0) (X 1) (X 2) (X 3) (X 4) (X 5)) (X 6) (X 7) (X 8) (X 9)) (X 7)) (M 4 7)) (k1_pay139 (k1_pay79 (k1_pay78 (X 0) (X 1) (X 2) (X 3) (X 4) (X 5)) (X 6) (X 7) (X 8) (X 9)) (X 8)) (M 4 8)) (k1_pay147 (k1_pay79 (k1_pay78 (X 0) (X 1) (X 2) (X 3) (X 4) (X 5)) (X 6) (X 7) (X 8) (X 9)) (X 9)) (k1_pay149 (k1_pay79 (k1_pay78 (X 0) (X 1) (X 2) (X 3) (X 4) (X 5)) (X 6) (X 7) (X 8) (X 9)) (k1_pay141 (k1_pay79 (k1_pay78 (X 0) (X 1) (X 2) (X 3) (X 4) (X 5)) (X 6) (X 7) (X 8) (X 9)) (k1_pay134 (k1_pay79 (k1_pay78 (X 0) (X 1) (X 2) (X 3) (X 4) (X 5)) (X 6) (X 7) (X 8) (X 9)) (k1_pay126 (k1_pay79 (k1_pay78 (X 0) (X 1) (X 2) (X 3) (X 4) (X 5)) (X 6) (X 7) (X 8) (X 9)) (k1_pay119 (k1_pay79 (k1_pay78 (X 0) (X 1) (X 2) (X 3) (X 4) (X 5)) (X 6) (X 7) (X 8) (X 9)) (k1_pay111 (k1_pay79 (k1_pay78 (X 0) (X 1) (X 2) (X 3) (X 4) (X 5)) (X 6) (X 7) (X 8) (X 9)) (k1_pay104 (k1_pay97 (k1_pay89 (k1_pay82 (k1_pay80 (k1_pay78 (X 0) (X 1) (X 2) (X 3) (X 4) (X 5)) (X 6) (X 7) (X 8) (X 9) (X 0)) (M 0 0)) (k1_pay87 (k1_pay79 (k1_pay78 (X 0) (X 1) (X 2) (X 3) (X 4) (X 5)) (X 6) (X 7) (X 8) (X 9)) (X 1)) (M 0 1)) (k1_pay94 (k1_pay79 (k1_pay78 (X 0) (X 1) (X 2) (X 3) (X 4) (X 5)) (X 6) (X 7) (X 8) (X 9)) (X 2)) (M 0 2)) (k1_pay102 (k1_pay79 (k1_pay78 (X 0) (X 1) (X 2) (X 3) (X 4) (X 5)) (X 6) (X 7) (X 8) (X 9)) (X 3)) (M 0 3)) (X 4) (M 0 4)) (X 5) (M 0 5)) (X 6) (M 0 6)) (X 7) (M 0 7)) (X 8) (M 0 8)) (X 9) (M 0 9)) (k1_pay150 (k1_pay79 (k1_pay78 (X 0) (X 1) (X 2) (X 3) (X 4) (X 5)) (X 6) (X 7) (X 8) (X 9)) (k1_pay142 (k1_pay79 (k1_pay78 (X 0) (X 1) (X 2) (X 3) (X 4) (X 5)) (X 6) (X 7) (X 8) (X 9)) (k1_pay135 (k1_pay79 (k1_pay78 (X 0) (X 1) (X 2) (X 3) (X 4) (X 5)) (X 6) (X 7) (X 8) (X 9)) (k1_pay127 (k1_pay79 (k1_pay78 (X 0) (X 1) (X 2) (X 3) (X 4) (X 5)) (X 6) (X 7) (X 8) (X 9)) (k1_pay120 (k1_pay79 (k1_pay78 (X 0) (X 1) (X 2) (X 3) (X 4) (X 5)) (X 6) (X 7) (X 8) (X 9)) (k1_pay112 (k1_pay79 (k1_pay78 (X 0) (X 1) (X 2) (X 3) (X 4) (X 5)) (X 6) (X 7) (X 8) (X 9)) (k1_pay105 (k1_pay98 (k1_pay90 (k1_pay83 (k1_pay80 (k1_pay78 (X 0) (X 1) (X 2) (X 3) (X 4) (X 5)) (X 6) (X 7) (X 8) (X 9) (X 0)) (M 1 0)) (k1_pay87 (k1_pay79 (k1_pay78 (X 0) (X 1) (X 2) (X 3) (X 4) (X 5)) (X 6) (X 7) (X 8) (X 9)) (X 1)) (M 1 1)) (k1_pay94 (k1_pay79 (k1_pay78 (X 0) (X 1) (X 2) (X 3) (X 4) (X 5)) (X 6) (X 7) (X 8) (X 9)) (X 2)) (M 1 2)) (k1_pay102 (k1_pay79 (k1_pay78 (X 0) (X 1) (X 2) (X 3) (X 4) (X 5)) (X 6) (X 7) (X 8) (X 9)) (X 3)) (M 1 3)) (X 4) (M 1 4)) (X 5) (M 1 5)) (X 6) (M 1 6)) (X 7) (M 1 7)) (X 8) (M 1 8)) (X 9) (M 1 9)) (M 2 9) (M 3 9) (M 4 9) (ix3 0 0 p) = agg (sims X (k1_pay79 (k1_pay78 (X 0) (X 1) (X 2) (X 3) (X 4) (X 5)) (X 6) (X 7) (X 8) (X 9)) M) p := by
  pointwise [k1_pay80, k1_pay82, k1_pay83, k1_pay84, k1_pay85, k1_pay86, k1_pay87, k1_pay89, k1_pay90, k1_pay91, k1_pay92, k1_pay93, k1_pay94, k1_pay97, k1_pay98, k1_pay99, k1_pay100, k1_pay101, k1_pay102, k1_pay104, k1_pay105, k1_pay106, k1_pay107, k1_pay108, k1_pay109, k1_pay111, k1_pay112, k1_pay113, k1_pay114, k1_pay115, k1_pay116, k1_pay117, k1_pay119, k1_pay120, k1_pay121, k1_pay122, k1_pay123, k1_pay124, k1_pay126, k1_pay127, k1_pay128, k1_pay129, k1_pay130, k1_pay131, k1_pay132, k1_pay134, k1_pay135, k1_pay136, k1_pay137, k1_pay138, k1_pay139, k1_pay141, k1_pay142, k1_pay143, k1_pay144, k1_pay145, k1_pay146, k1_pay147, k1_pay149, k1_pay150, k1_pay151]
  generalize (k1_pay79 (k1_pay78 (X 0) (X 1) (X 2) (X 3) (X 4) (X 5)) (X 6) (X 7) (X 8) (X 9)) = V
  have L := ladder X V M
  simp only [sims] at L
  simp only [L, bits_neg_inf, agg, softmax, rowMax, sims]
  rfl

end Cert.Dn4.Region1

end
-- ==== Proof.Region1Rows1.lean ====
/- The second stage on queries 2 to 3 of a block of eight: the kernel's own terms. -/
module

public import proofs.«01_k».proof.Proof.Region1

@[expose] public section

set_option maxRecDepth 16384

noncomputable section

namespace Cert.Dn4.Region1

open Cert.KernelIdeal Cert.KernelIdeal.Gen
open Idealize.ShloMosaic Idealize.ShloMosaic.TcCoe Idealize.SL.Sem

theorem recip2 (X : Fin 10 → Vec Ideal S1x64x441 .f32) (p : Fin 441) : (k1_pay155 (k1_pay153 (k1_pay152 (X 0)) (X 1) (X 2) (X 3) (X 4) (X 5)) (k1_pay154 (X 6)) (X 7) (X 8) (X 9)) (ix2 0 p) = recip X p := by
  pointwise [k1_pay152, k1_pay153, k1_pay154, k1_pay155]
  rfl

theorem chunk2_0 (X : Fin 10 → Vec Ideal S1x64x441 .f32) (c : Fin 64) (p : Fin 441) :
    k1_pay157 (k1_pay153 (k1_pay152 (X 0)) (X 1) (X 2) (X 3) (X 4) (X 5)) (k1_pay154 (X 6)) (X 7) (X 8) (X 9) (X 0) (ix3 0 c p) = X 0 (ix3 0 c p) * (k1_pay155 (k1_pay153 (k1_pay152 (X 0)) (X 1) (X 2) (X 3) (X 4) (X 5)) (k1_pay154 (X 6)) (X 7) (X 8) (X 9)) (ix2 0 p) := by
  pointwise [k1_pay156, k1_pay157]

theorem chunk2_1 (X : Fin 10 → Vec Ideal S1x64x441 .f32) (c : Fin 64) (p : Fin 441) :
    k1_pay165 (k1_pay155 (k1_pay153 (k1_pay152 (X 0)) (X 1) (X 2) (X 3) (X 4) (X 5)) (k1_pay154 (X 6)) (X 7) (X 8) (X 9)) (X 1) (ix3 0 c p) = X 1 (ix3 0 c p) * (k1_pay155 (k1_pay153 (k1_pay152 (X 0)) (X 1) (X 2) (X 3) (X 4) (X 5)) (k1_pay154 (X 6)) (X 7) (X 8) (X 9)) (ix2 0 p) := by
  pointwise [k1_pay164, k1_pay165]

theorem chunk2_2 (X : Fin 10 → Vec Ideal S1x64x441 .f32) (c : Fin 64) (p : Fin 441) :
    k1_pay173 (k1_pay155 (k1_pay153 (k1_pay152 (X 0)) (X 1) (X 2) (X 3) (X 4) (X 5)) (k1_pay154 (X 6)) (X 7) (X 8) (X 9)) (X 2) (ix3 0 c p) = X 2 (ix3 0 c p) * (k1_pay155 (k1_pay153 (k1_pay152 (X 0)) (X 1) (X 2) (X 3) (X 4) (X 5)) (k1_pay154 (X 6)) (X 7) (X 8) (X 9)) (ix2 0 p) := by
  pointwise [k1_pay172, k1_pay173]

theorem chunk2_3 (X : Fin 10 → Vec Ideal S1x64x441 .f32) (c : Fin 64) (p : Fin 441) :
    k1_pay181 (k1_pay180 (k1_pay155 (k1_pay153 (k1_pay152 (X 0)) (X 1) (X 2) (X 3) (X 4) (X 5)) (k1_pay154 (X 6)) (X 7) (X 8) (X 9)) (X 3)) (ix3 0 c p) = X 3 (ix3 0 c p) * (k1_pay155 (k1_pay153 (k1_pay152 (X 0)) (X 1) (X 2) (X 3) (X 4) (X 5)) (k1_pay154 (X 6)) (X 7) (X 8) (X 9)) (ix2 0 p) := by
  pointwise [k1_pay179, k1_pay180, k1_pay181]

theorem chunk2_4 (X : Fin 10 → Vec Ideal S1x64x441 .f32) (c : Fin 64) (p : Fin 441) :
    k1_pay190 (k1_pay187 (X 4)) (k1_pay188 (k1_pay155 (k1_pay153 (k1_pay152 (X 0)) (X 1) (X 2) (X 3) (X 4) (X 5)) (k1_pay154 (X 6)) (X 7) (X 8) (X 9))) (ix3 0 c p) = X 4 (ix3 0 c p) * (k1_pay155 (k1_pay153 (k1_pay152 (X 0)) (X 1) (X 2) (X 3) (X 4) (X 5)) (k1_pay154 (X 6)) (X 7) (X 8) (X 9)) (ix2 0 p) := by
  pointwise [k1_pay187, k1_pay188, k1_pay189, k1_pay190]

theorem chunk2_5 (X : Fin 10 → Vec Ideal S1x64x441 .f32) (c : Fin 64) (p : Fin 441) :
    k1_pay197 (k1_pay155 (k1_pay153 (k1_pay152 (X 0)) (X 1) (X 2) (X 3) (X 4) (X 5)) (k1_pay154 (X 6)) (X 7) (X 8) (X 9)) (X 5) (ix3 0 c p) = X 5 (ix3 0 c p) * (k1_pay155 (k1_pay153 (k1_pay152 (X 0)) (X 1) (X 2) (X 3) (X 4) (X 5)) (k1_pay154 (X 6)) (X 7) (X 8) (X 9)) (ix2 0 p) := by
  pointwise [k1_pay196, k1_pay197]

theorem chunk2_6 (X : Fin 10 → Vec Ideal S1x64x441 .f32) (c : Fin 64) (p : Fin 441) :
    k1_pay205 (k1_pay155 (k1_pay153 (k1_pay152 (X 0)) (X 1) (X 2) (X 3) (X 4) (X 5)) (k1_pay154 (X 6)) (X 7) (X 8) (X 9)) (X 6) (ix3 0 c p) = X 6 (ix3 0 c p) * (k1_pay155 (k1_pay153 (k1_pay152 (X 0)) (X 1) (X 2) (X 3) (X 4) (X 5)) (k1_pay154 (X 6)) (X 7) (X 8) (X 9)) (ix2 0 p) := by
  pointwise [k1_pay204, k1_pay205]

theorem chunk2_7 (X : Fin 10 → Vec Ideal S1x64x441 .f32) (c : Fin 64) (p : Fin 441) :
    k1_pay212 (k1_pay155 (k1_pay153 (k1_pay152 (X 0)) (X 1) (X 2) (X 3) (X 4) (X 5)) (k1_pay154 (X 6)) (X 7) (X 8) (X 9)) (X 7) (ix3 0 c p) = X 7 (ix3 0 c p) * (k1_pay155 (k1_pay153 (k1_pay152 (X 0)) (X 1) (X 2) (X 3) (X 4) (X 5)) (k1_pay154 (X 6)) (X 7) (X 8) (X 9)) (ix2 0 p) := by
  pointwise [k1_pay211, k1_pay212]

theorem chunk2_8 (X : Fin 10 → Vec Ideal S1x64x441 .f32) (c : Fin 64) (p : Fin 441) :
    k1_pay220 (k1_pay155 (k1_pay153 (k1_pay152 (X 0)) (X 1) (X 2) (X 3) (X 4) (X 5)) (k1_pay154 (X 6)) (X 7) (X 8) (X 9)) (X 8) (ix3 0 c p) = X 8 (ix3 0 c p) * (k1_pay155 (k1_pay153 (k1_pay152 (X 0)) (X 1) (X 2) (X 3) (X 4) (X 5)) (k1_pay154 (X 6)) (X 7) (X 8) (X 9)) (ix2 0 p) := by
  pointwise [k1_pay219, k1_pay220]

theorem chunk2_9 (X : Fin 10 → Vec Ideal S1x64x441 .f32) (c : Fin 64) (p : Fin 441) :
    k1_pay227 (k1_pay155 (k1_pay153 (k1_pay152 (X 0)) (X 1) (X 2) (X 3) (X 4) (X 5)) (k1_pay154 (X 6)) (X 7) (X 8) (X 9)) (X 9) (ix3 0 c p) = X 9 (ix3 0 c p) * (k1_pay155 (k1_pay153 (k1_pay152 (X 0)) (X 1) (X 2) (X 3) (X 4) (X 5)) (k1_pay154 (X 6)) (X 7) (X 8) (X 9)) (ix2 0 p) := by
  pointwise [k1_pay226, k1_pay227]

theorem row2 (X : Fin 10 → Vec Ideal S1x64x441 .f32) (M : Fin 5 → Fin 10 → Vec Ideal S1x64x441 .f32) (p : Fin 441) :
    k1_pay231 (k1_pay223 (k1_pay155 (k1_pay153 (k1_pay152 (X 0)) (X 1) (X 2) (X 3) (X 4) (X 5)) (k1_pay154 (X 6)) (X 7) (X 8) (X 9)) (k1_pay215 (k1_pay155 (k1_pay153 (k1_pay152 (X 0)) (X 1) (X 2) (X 3) (X 4) (X 5)) (k1_pay154 (X 6)) (X 7) (X 8) (X 9)) (k1_pay208 (k1_pay155 (k1_pay153 (k1_pay152 (X 0)) (X 1) (X 2) (X 3) (X 4) (X 5)) (k1_pay154 (X 6)) (X 7) (X 8) (X 9)) (k1_pay200 (k1_pay155 (k1_pay153 (k1_pay152 (X 0)) (X 1) (X 2) (X 3) (X 4) (X 5)) (k1_pay154 (X 6)) (X 7) (X 8) (X 9)) (k1_pay193 (k1_pay184 (k1_pay176 (k1_pay169 (k1_pay161 (k1_pay156 (k1_pay153 (k1_pay152 (X 0)) (X 1) (X 2) (X 3) (X 4) (X 5)) (k1_pay154 (X 6)) (X 7) (X 8) (X 9) (X 0)) (M 2 0)) (k1_pay164 (k1_pay155 (k1_pay153 (k1_pay152 (X 0)) (X 1) (X 2) (X 3) (X 4) (X 5)) (k1_pay154 (X 6)) (X 7) (X 8) (X 9)) (X 1)) (M 2 1)) (k1_pay172 (k1_pay155 (k1_pay153 (k1_pay152 (X 0)) (X 1) (X 2) (X 3) (X 4) (X 5)) (k1_pay154 (X 6)) (X 7) (X 8) (X 9)) (X 2)) (M 2 2)) (k1_pay179 (k1_pay155 (k1_pay153 (k1_pay152 (X 0)) (X 1) (X 2) (X 3) (X 4) (X 5)) (k1_pay154 (X 6)) (X 7) (X 8) (X 9)) (X 3)) (M 2 3)) (k1_pay187 (X 4)) (k1_pay188 (k1_pay155 (k1_pay153 (k1_pay152 (X 0)) (X 1) (X 2) (X 3) (X 4) (X 5)) (k1_pay154 (X 6)) (X 7) (X 8) (X 9))) (M 2 4)) (X 5) (M 2 5)) (X 6) (M 2 6)) (X 7) (M 2 7)) (X 8) (M 2 8)) (k1_pay224 (k1_pay217 (k1_pay209 (k1_pay155 (k1_pay153 (k1_pay152 (X 0)) (X 1) (X 2) (X 3) (X 4) (X 5)) (k1_pay154 (X 6)) (X 7) (X 8) (X 9)) (k1_pay201 (k1_pay155 (k1_pay153 (k1_pay152 (X 0)) (X 1) (X 2) (X 3) (X 4) (X 5)) (k1_pay154 (X 6)) (X 7) (X 8) (X 9)) (k1_pay194 (k1_pay185 (k1_pay177 (k1_pay170 (k1_pay162 (k1_pay156 (k1_pay153 (k1_pay152 (X 0)) (X 1) (X 2) (X 3) (X 4) (X 5)) (k1_pay154 (X 6)) (X 7) (X 8) (X 9) (X 0)) (M 3 0)) (k1_pay164 (k1_pay155 (k1_pay153 (k1_pay152 (X 0)) (X 1) (X 2) (X 3) (X 4) (X 5)) (k1_pay154 (X 6)) (X 7) (X 8) (X 9)) (X 1)) (M 3 1)) (k1_pay172 (k1_pay155 (k1_pay153 (k1_pay152 (X 0)) (X 1) (X 2) (X 3) (X 4) (X 5)) (k1_pay154 (X 6)) (X 7) (X 8) (X 9)) (X 2)) (M 3 2)) (k1_pay179 (k1_pay155 (k1_pay153 (k1_pay152 (X 0)) (X 1) (X 2) (X 3) (X 4) (X 5)) (k1_pay154 (X 6)) (X 7) (X 8) (X 9)) (X 3)) (M 3 3)) (k1_pay187 (X 4)) (k1_pay188 (k1_pay155 (k1_pay153 (k1_pay152 (X 0)) (X 1) (X 2) (X 3) (X 4) (X 5)) (k1_pay154 (X 6)) (X 7) (X 8) (X 9))) (M 3 4)) (X 5) (M 3 5)) (X 6) (M 3 6)) (k1_pay216 (k1_pay155 (k1_pay153 (k1_pay152 (X 0)) (X 1) (X 2) (X 3) (X 4) (X 5)) (k1_pay154 (X 6)) (X 7) (X 8) (X 9)) (X 7) (M 3 7))) (k1_pay219 (k1_pay155 (k1_pay153 (k1_pay152 (X 0)) (X 1) (X 2) (X 3) (X 4) (X 5)) (k1_pay154 (X 6)) (X 7) (X 8) (X 9)) (X 8)) (M 3 8)) (k1_pay225 (k1_pay218 (k1_pay210 (k1_pay203 (k1_pay195 (k1_pay186 (k1_pay178 (k1_pay171 (k1_pay163 (k1_pay156 (k1_pay153 (k1_pay152 (X 0)) (X 1) (X 2) (X 3) (X 4) (X 5)) (k1_pay154 (X 6)) (X 7) (X 8) (X 9) (X 0)) (M 4 0)) (k1_pay164 (k1_pay155 (k1_pay153 (k1_pay152 (X 0)) (X 1) (X 2) (X 3) (X 4) (X 5)) (k1_pay154 (X 6)) (X 7) (X 8) (X 9)) (X 1)) (M 4 1)) (k1_pay172 (k1_pay155 (k1_pay153 (k1_pay152 (X 0)) (X 1) (X 2) (X 3) (X 4) (X 5)) (k1_pay154 (X 6)) (X 7) (X 8) (X 9)) (X 2)) (M 4 2)) (k1_pay179 (k1_pay155 (k1_pay153 (k1_pay152 (X 0)) (X 1) (X 2) (X 3) (X 4) (X 5)) (k1_pay154 (X 6)) (X 7) (X 8) (X 9)) (X 3)) (M 4 3)) (k1_pay187 (X 4)) (k1_pay188 (k1_pay155 (k1_pay153 (k1_pay152 (X 0)) (X 1) (X 2) (X 3) (X 4) (X 5)) (k1_pay154 (X 6)) (X 7) (X 8) (X 9))) (M 4 4)) (k1_pay202 (k1_pay155 (k1_pay153 (k1_pay152 (X 0)) (X 1) (X 2) (X 3) (X 4) (X 5)) (k1_pay154 (X 6)) (X 7) (X 8) (X 9)) (X 5) (M 4 5))) (k1_pay204 (k1_pay155 (k1_pay153 (k1_pay152 (X 0)) (X 1) (X 2) (X 3) (X 4) (X 5)) (k1_pay154 (X 6)) (X 7) (X 8) (X 9)) (X 6)) (M 4 6)) (k1_pay211 (k1_pay155 (k1_pay153 (k1_pay152 (X 0)) (X 1) (X 2) (X 3) (X 4) (X 5)) (k1_pay154 (X 6)) (X 7) (X 8) (X 9)) (X 7)) (M 4 7)) (k1_pay219 (k1_pay155 (k1_pay153 (k1_pay152 (X 0)) (X 1) (X 2) (X 3) (X 4) (X 5)) (k1_pay154 (X 6)) (X 7) (X 8) (X 9)) (X 8)) (M 4 8)) (k1_pay226 (k1_pay155 (k1_pay153 (k1_pay152 (X 0)) (X 1) (X 2) (X 3) (X 4) (X 5)) (k1_pay154 (X 6)) (X 7) (X 8) (X 9)) (X 9)) (k1_pay228 (k1_pay155 (k1_pay153 (k1_pay152 (X 0)) (X 1) (X 2) (X 3) (X 4) (X 5)) (k1_pay154 (X 6)) (X 7) (X 8) (X 9)) (k1_pay221 (k1_pay155 (k1_pay153 (k1_pay152 (X 0)) (X 1) (X 2) (X 3) (X 4) (X 5)) (k1_pay154 (X 6)) (X 7) (X 8) (X 9)) (k1_pay213 (k1_pay155 (k1_pay153 (k1_pay152 (X 0)) (X 1) (X 2) (X 3) (X 4) (X 5)) (k1_pay154 (X 6)) (X 7) (X 8) (X 9)) (k1_pay206 (k1_pay155 (k1_pay153 (k1_pay152 (X 0)) (X 1) (X 2) (X 3) (X 4) (X 5)) (k1_pay154 (X 6)) (X 7) (X 8) (X 9)) (k1_pay198 (k1_pay155 (k1_pay153 (k1_pay152 (X 0)) (X 1) (X 2) (X 3) (X 4) (X 5)) (k1_pay154 (X 6)) (X 7) (X 8) (X 9)) (k1_pay191 (k1_pay182 (k1_pay174 (k1_pay167 (k1_pay159 (k1_pay158 (k1_pay153 (k1_pay152 (X 0)) (X 1) (X 2) (X 3) (X 4) (X 5)) (k1_pay154 (X 6)) (X 7) (X 8) (X 9) (X 0) (M 0 0))) (k1_pay166 (k1_pay155 (k1_pay153 (k1_pay152 (X 0)) (X 1) (X 2) (X 3) (X 4) (X 5)) (k1_pay154 (X 6)) (X 7) (X 8) (X 9)) (X 1) (M 0 1))) (k1_pay172 (k1_pay155 (k1_pay153 (k1_pay152 (X 0)) (X 1) (X 2) (X 3) (X 4) (X 5)) (k1_pay154 (X 6)) (X 7) (X 8) (X 9)) (X 2)) (M 0 2)) (k1_pay179 (k1_pay155 (k1_pay153 (k1_pay152 (X 0)) (X 1) (X 2) (X 3) (X 4) (X 5)) (k1_pay154 (X 6)) (X 7) (X 8) (X 9)) (X 3)) (M 0 3)) (k1_pay187 (X 4)) (k1_pay188 (k1_pay155 (k1_pay153 (k1_pay152 (X 0)) (X 1) (X 2) (X 3) (X 4) (X 5)) (k1_pay154 (X 6)) (X 7) (X 8) (X 9))) (M 0 4)) (X 5) (M 0 5)) (X 6) (M 0 6)) (X 7) (M 0 7)) (X 8) (M 0 8)) (X 9) (M 0 9)) (k1_pay229 (k1_pay155 (k1_pay153 (k1_pay152 (X 0)) (X 1) (X 2) (X 3) (X 4) (X 5)) (k1_pay154 (X 6)) (X 7) (X 8) (X 9)) (k1_pay222 (k1_pay155 (k1_pay153 (k1_pay152 (X 0)) (X 1) (X 2) (X 3) (X 4) (X 5)) (k1_pay154 (X 6)) (X 7) (X 8) (X 9)) (k1_pay214 (k1_pay155 (k1_pay153 (k1_pay152 (X 0)) (X 1) (X 2) (X 3) (X 4) (X 5)) (k1_pay154 (X 6)) (X 7) (X 8) (X 9)) (k1_pay207 (k1_pay155 (k1_pay153 (k1_pay152 (X 0)) (X 1) (X 2) (X 3) (X 4) (X 5)) (k1_pay154 (X 6)) (X 7) (X 8) (X 9)) (k1_pay199 (k1_pay155 (k1_pay153 (k1_pay152 (X 0)) (X 1) (X 2) (X 3) (X 4) (X 5)) (k1_pay154 (X 6)) (X 7) (X 8) (X 9)) (k1_pay192 (k1_pay183 (k1_pay175 (k1_pay168 (k1_pay160 (k1_pay156 (k1_pay153 (k1_pay152 (X 0)) (X 1) (X 2) (X 3) (X 4) (X 5)) (k1_pay154 (X 6)) (X 7) (X 8) (X 9) (X 0)) (M 1 0)) (k1_pay164 (k1_pay155 (k1_pay153 (k1_pay152 (X 0)) (X 1) (X 2) (X 3) (X 4) (X 5)) (k1_pay154 (X 6)) (X 7) (X 8) (X 9)) (X 1)) (M 1 1)) (k1_pay172 (k1_pay155 (k1_pay153 (k1_pay152 (X 0)) (X 1) (X 2) (X 3) (X 4) (X 5)) (k1_pay154 (X 6)) (X 7) (X 8) (X 9)) (X 2)) (M 1 2)) (k1_pay179 (k1_pay155 (k1_pay153 (k1_pay152 (X 0)) (X 1) (X 2) (X 3) (X 4) (X 5)) (k1_pay154 (X 6)) (X 7) (X 8) (X 9)) (X 3)) (M 1 3)) (k1_pay187 (X 4)) (k1_pay188 (k1_pay155 (k1_pay153 (k1_pay152 (X 0)) (X 1) (X 2) (X 3) (X 4) (X 5)) (k1_pay154 (X 6)) (X 7) (X 8) (X 9))) (M 1 4)) (X 5) (M 1 5)) (X 6) (M 1 6)) (X 7) (M 1 7)) (X 8) (M 1 8)) (X 9) (M 1 9)) (k1_pay230 (k1_pay155 (k1_pay153 (k1_pay152 (X 0)) (X 1) (X 2) (X 3) (X 4) (X 5)) (k1_pay154 (X 6)) (X 7) (X 8) (X 9)) (X 9) (M 2 9)) (M 3 9) (M 4 9) (ix3 0 0 p) = agg (sims X (k1_pay155 (k1_pay153 (k1_pay152 (X 0)) (X 1) (X 2) (X 3) (X 4) (X 5)) (k1_pay154 (X 6)) (X 7) (X 8) (X 9)) M) p := by
  pointwise [k1_pay156, k1_pay158, k1_pay159, k1_pay160, k1_pay161, k1_pay162, k1_pay163, k1_pay164, k1_pay166, k1_pay167, k1_pay168, k1_pay169, k1_pay170, k1_pay171, k1_pay172, k1_pay174, k1_pay175, k1_pay176, k1_pay177, k1_pay178, k1_pay179, k1_pay182, k1_pay183, k1_pay184, k1_pay185, k1_pay186, k1_pay187, k1_pay188, k1_pay189, k1_pay191, k1_pay192, k1_pay193, k1_pay194, k1_pay195, k1_pay196, k1_pay198, k1_pay199, k1_pay200, k1_pay201, k1_pay202, k1_pay203, k1_pay204, k1_pay206, k1_pay207, k1_pay208, k1_pay209, k1_pay210, k1_pay211, k1_pay213, k1_pay214, k1_pay215, k1_pay216, k1_pay217, k1_pay218, k1_pay219, k1_pay221, k1_pay222, k1_pay223, k1_pay224, k1_pay225, k1_pay226, k1_pay228, k1_pay229, k1_pay230, k1_pay231]
  generalize (k1_pay155 (k1_pay153 (k1_pay152 (X 0)) (X 1) (X 2) (X 3) (X 4) (X 5)) (k1_pay154 (X 6)) (X 7) (X 8) (X 9)) = V
  have L := ladder X V M
  simp only [sims] at L
  simp only [L, bits_neg_inf, agg, softmax, rowMax, sims]
  rfl

theorem recip3 (X : Fin 10 → Vec Ideal S1x64x441 .f32) (p : Fin 441) : (k1_pay234 (k1_pay233 (k1_pay232 (X 0)) (X 1) (X 2) (X 3) (X 4) (X 5) (X 6)) (X 7) (X 8) (X 9)) (ix2 0 p) = recip X p := by
  pointwise [k1_pay232, k1_pay233, k1_pay234]
  rfl

theorem chunk3_0 (X : Fin 10 → Vec Ideal S1x64x441 .f32) (c : Fin 64) (p : Fin 441) :
    k1_pay236 (k1_pay233 (k1_pay232 (X 0)) (X 1) (X 2) (X 3) (X 4) (X 5) (X 6)) (X 7) (X 8) (X 9) (X 0) (ix3 0 c p) = X 0 (ix3 0 c p) * (k1_pay234 (k1_pay233 (k1_pay232 (X 0)) (X 1) (X 2) (X 3) (X 4) (X 5) (X 6)) (X 7) (X 8) (X 9)) (ix2 0 p) := by
  pointwise [k1_pay235, k1_pay236]

theorem chunk3_1 (X : Fin 10 → Vec Ideal S1x64x441 .f32) (c : Fin 64) (p : Fin 441) :
    k1_pay243 (k1_pay234 (k1_pay233 (k1_pay232 (X 0)) (X 1) (X 2) (X 3) (X 4) (X 5) (X 6)) (X 7) (X 8) (X 9)) (X 1) (ix3 0 c p) = X 1 (ix3 0 c p) * (k1_pay234 (k1_pay233 (k1_pay232 (X 0)) (X 1) (X 2) (X 3) (X 4) (X 5) (X 6)) (X 7) (X 8) (X 9)) (ix2 0 p) := by
  pointwise [k1_pay242, k1_pay243]

theorem chunk3_2 (X : Fin 10 → Vec Ideal S1x64x441 .f32) (c : Fin 64) (p : Fin 441) :
    k1_pay250 (k1_pay234 (k1_pay233 (k1_pay232 (X 0)) (X 1) (X 2) (X 3) (X 4) (X 5) (X 6)) (X 7) (X 8) (X 9)) (X 2) (ix3 0 c p) = X 2 (ix3 0 c p) * (k1_pay234 (k1_pay233 (k1_pay232 (X 0)) (X 1) (X 2) (X 3) (X 4) (X 5) (X 6)) (X 7) (X 8) (X 9)) (ix2 0 p) := by
  pointwise [k1_pay249, k1_pay250]

theorem chunk3_3 (X : Fin 10 → Vec Ideal S1x64x441 .f32) (c : Fin 64) (p : Fin 441) :
    k1_pay258 (k1_pay234 (k1_pay233 (k1_pay232 (X 0)) (X 1) (X 2) (X 3) (X 4) (X 5) (X 6)) (X 7) (X 8) (X 9)) (X 3) (ix3 0 c p) = X 3 (ix3 0 c p) * (k1_pay234 (k1_pay233 (k1_pay232 (X 0)) (X 1) (X 2) (X 3) (X 4) (X 5) (X 6)) (X 7) (X 8) (X 9)) (ix2 0 p) := by
  pointwise [k1_pay257, k1_pay258]

theorem chunk3_4 (X : Fin 10 → Vec Ideal S1x64x441 .f32) (c : Fin 64) (p : Fin 441) :
    k1_pay266 (k1_pay265 (k1_pay234 (k1_pay233 (k1_pay232 (X 0)) (X 1) (X 2) (X 3) (X 4) (X 5) (X 6)) (X 7) (X 8) (X 9)) (X 4)) (ix3 0 c p) = X 4 (ix3 0 c p) * (k1_pay234 (k1_pay233 (k1_pay232 (X 0)) (X 1) (X 2) (X 3) (X 4) (X 5) (X 6)) (X 7) (X 8) (X 9)) (ix2 0 p) := by
  pointwise [k1_pay264, k1_pay265, k1_pay266]

theorem chunk3_5 (X : Fin 10 → Vec Ideal S1x64x441 .f32) (c : Fin 64) (p : Fin 441) :
    k1_pay274 (k1_pay234 (k1_pay233 (k1_pay232 (X 0)) (X 1) (X 2) (X 3) (X 4) (X 5) (X 6)) (X 7) (X 8) (X 9)) (k1_pay272 (X 5)) (ix3 0 c p) = X 5 (ix3 0 c p) * (k1_pay234 (k1_pay233 (k1_pay232 (X 0)) (X 1) (X 2) (X 3) (X 4) (X 5) (X 6)) (X 7) (X 8) (X 9)) (ix2 0 p) := by
  pointwise [k1_pay272, k1_pay273, k1_pay274]

theorem chunk3_6 (X : Fin 10 → Vec Ideal S1x64x441 .f32) (c : Fin 64) (p : Fin 441) :
    k1_pay281 (k1_pay234 (k1_pay233 (k1_pay232 (X 0)) (X 1) (X 2) (X 3) (X 4) (X 5) (X 6)) (X 7) (X 8) (X 9)) (X 6) (ix3 0 c p) = X 6 (ix3 0 c p) * (k1_pay234 (k1_pay233 (k1_pay232 (X 0)) (X 1) (X 2) (X 3) (X 4) (X 5) (X 6)) (X 7) (X 8) (X 9)) (ix2 0 p) := by
  pointwise [k1_pay280, k1_pay281]

theorem chunk3_7 (X : Fin 10 → Vec Ideal S1x64x441 .f32) (c : Fin 64) (p : Fin 441) :
    k1_pay289 (k1_pay234 (k1_pay233 (k1_pay232 (X 0)) (X 1) (X 2) (X 3) (X 4) (X 5) (X 6)) (X 7) (X 8) (X 9)) (X 7) (ix3 0 c p) = X 7 (ix3 0 c p) * (k1_pay234 (k1_pay233 (k1_pay232 (X 0)) (X 1) (X 2) (X 3) (X 4) (X 5) (X 6)) (X 7) (X 8) (X 9)) (ix2 0 p) := by
  pointwise [k1_pay288, k1_pay289]

theorem chunk3_8 (X : Fin 10 → Vec Ideal S1x64x441 .f32) (c : Fin 64) (p : Fin 441) :
    k1_pay296 (k1_pay234 (k1_pay233 (k1_pay232 (X 0)) (X 1) (X 2) (X 3) (X 4) (X 5) (X 6)) (X 7) (X 8) (X 9)) (X 8) (ix3 0 c p) = X 8 (ix3 0 c p) * (k1_pay234 (k1_pay233 (k1_pay232 (X 0)) (X 1) (X 2) (X 3) (X 4) (X 5) (X 6)) (X 7) (X 8) (X 9)) (ix2 0 p) := by
  pointwise [k1_pay295, k1_pay296]

theorem chunk3_9 (X : Fin 10 → Vec Ideal S1x64x441 .f32) (c : Fin 64) (p : Fin 441) :
    k1_pay304 (k1_pay234 (k1_pay233 (k1_pay232 (X 0)) (X 1) (X 2) (X 3) (X 4) (X 5) (X 6)) (X 7) (X 8) (X 9)) (X 9) (ix3 0 c p) = X 9 (ix3 0 c p) * (k1_pay234 (k1_pay233 (k1_pay232 (X 0)) (X 1) (X 2) (X 3) (X 4) (X 5) (X 6)) (X 7) (X 8) (X 9)) (ix2 0 p) := by
  pointwise [k1_pay303, k1_pay304]

theorem row3 (X : Fin 10 → Vec Ideal S1x64x441 .f32) (M : Fin 5 → Fin 10 → Vec Ideal S1x64x441 .f32) (p : Fin 441) :
    k1_pay308 (k1_pay301 (k1_pay293 (k1_pay234 (k1_pay233 (k1_pay232 (X 0)) (X 1) (X 2) (X 3) (X 4) (X 5) (X 6)) (X 7) (X 8) (X 9)) (k1_pay285 (k1_pay234 (k1_pay233 (k1_pay232 (X 0)) (X 1) (X 2) (X 3) (X 4) (X 5) (X 6)) (X 7) (X 8) (X 9)) (k1_pay278 (k1_pay234 (k1_pay233 (k1_pay232 (X 0)) (X 1) (X 2) (X 3) (X 4) (X 5) (X 6)) (X 7) (X 8) (X 9)) (k1_pay270 (k1_pay262 (k1_pay255 (k1_pay247 (k1_pay240 (k1_pay235 (k1_pay233 (k1_pay232 (X 0)) (X 1) (X 2) (X 3) (X 4) (X 5) (X 6)) (X 7) (X 8) (X 9) (X 0)) (M 3 0)) (k1_pay242 (k1_pay234 (k1_pay233 (k1_pay232 (X 0)) (X 1) (X 2) (X 3) (X 4) (X 5) (X 6)) (X 7) (X 8) (X 9)) (X 1)) (M 3 1)) (k1_pay249 (k1_pay234 (k1_pay233 (k1_pay232 (X 0)) (X 1) (X 2) (X 3) (X 4) (X 5) (X 6)) (X 7) (X 8) (X 9)) (X 2)) (M 3 2)) (k1_pay257 (k1_pay234 (k1_pay233 (k1_pay232 (X 0)) (X 1) (X 2) (X 3) (X 4) (X 5) (X 6)) (X 7) (X 8) (X 9)) (X 3)) (M 3 3)) (k1_pay264 (k1_pay234 (k1_pay233 (k1_pay232 (X 0)) (X 1) (X 2) (X 3) (X 4) (X 5) (X 6)) (X 7) (X 8) (X 9)) (X 4)) (M 3 4)) (k1_pay272 (X 5)) (M 3 5)) (X 6) (M 3 6)) (X 7) (M 3 7)) (k1_pay295 (k1_pay234 (k1_pay233 (k1_pay232 (X 0)) (X 1) (X 2) (X 3) (X 4) (X 5) (X 6)) (X 7) (X 8) (X 9)) (X 8)) (k1_pay300 (M 3 8))) (k1_pay302 (k1_pay294 (k1_pay287 (k1_pay279 (k1_pay234 (k1_pay233 (k1_pay232 (X 0)) (X 1) (X 2) (X 3) (X 4) (X 5) (X 6)) (X 7) (X 8) (X 9)) (k1_pay271 (k1_pay263 (k1_pay256 (k1_pay248 (k1_pay241 (k1_pay235 (k1_pay233 (k1_pay232 (X 0)) (X 1) (X 2) (X 3) (X 4) (X 5) (X 6)) (X 7) (X 8) (X 9) (X 0)) (M 4 0)) (k1_pay242 (k1_pay234 (k1_pay233 (k1_pay232 (X 0)) (X 1) (X 2) (X 3) (X 4) (X 5) (X 6)) (X 7) (X 8) (X 9)) (X 1)) (M 4 1)) (k1_pay249 (k1_pay234 (k1_pay233 (k1_pay232 (X 0)) (X 1) (X 2) (X 3) (X 4) (X 5) (X 6)) (X 7) (X 8) (X 9)) (X 2)) (M 4 2)) (k1_pay257 (k1_pay234 (k1_pay233 (k1_pay232 (X 0)) (X 1) (X 2) (X 3) (X 4) (X 5) (X 6)) (X 7) (X 8) (X 9)) (X 3)) (M 4 3)) (k1_pay264 (k1_pay234 (k1_pay233 (k1_pay232 (X 0)) (X 1) (X 2) (X 3) (X 4) (X 5) (X 6)) (X 7) (X 8) (X 9)) (X 4)) (M 4 4)) (k1_pay272 (X 5)) (M 4 5)) (k1_pay280 (k1_pay234 (k1_pay233 (k1_pay232 (X 0)) (X 1) (X 2) (X 3) (X 4) (X 5) (X 6)) (X 7) (X 8) (X 9)) (X 6)) (k1_pay286 (M 4 6))) (k1_pay288 (k1_pay234 (k1_pay233 (k1_pay232 (X 0)) (X 1) (X 2) (X 3) (X 4) (X 5) (X 6)) (X 7) (X 8) (X 9)) (X 7)) (M 4 7)) (k1_pay295 (k1_pay234 (k1_pay233 (k1_pay232 (X 0)) (X 1) (X 2) (X 3) (X 4) (X 5) (X 6)) (X 7) (X 8) (X 9)) (X 8)) (M 4 8)) (k1_pay303 (k1_pay234 (k1_pay233 (k1_pay232 (X 0)) (X 1) (X 2) (X 3) (X 4) (X 5) (X 6)) (X 7) (X 8) (X 9)) (X 9)) (k1_pay305 (k1_pay234 (k1_pay233 (k1_pay232 (X 0)) (X 1) (X 2) (X 3) (X 4) (X 5) (X 6)) (X 7) (X 8) (X 9)) (k1_pay297 (k1_pay234 (k1_pay233 (k1_pay232 (X 0)) (X 1) (X 2) (X 3) (X 4) (X 5) (X 6)) (X 7) (X 8) (X 9)) (k1_pay290 (k1_pay234 (k1_pay233 (k1_pay232 (X 0)) (X 1) (X 2) (X 3) (X 4) (X 5) (X 6)) (X 7) (X 8) (X 9)) (k1_pay282 (k1_pay234 (k1_pay233 (k1_pay232 (X 0)) (X 1) (X 2) (X 3) (X 4) (X 5) (X 6)) (X 7) (X 8) (X 9)) (k1_pay275 (k1_pay234 (k1_pay233 (k1_pay232 (X 0)) (X 1) (X 2) (X 3) (X 4) (X 5) (X 6)) (X 7) (X 8) (X 9)) (k1_pay267 (k1_pay259 (k1_pay252 (k1_pay244 (k1_pay234 (k1_pay233 (k1_pay232 (X 0)) (X 1) (X 2) (X 3) (X 4) (X 5) (X 6)) (X 7) (X 8) (X 9)) (k1_pay237 (k1_pay233 (k1_pay232 (X 0)) (X 1) (X 2) (X 3) (X 4) (X 5) (X 6)) (X 7) (X 8) (X 9) (X 0) (M 0 0)) (X 1) (M 0 1)) (k1_pay249 (k1_pay234 (k1_pay233 (k1_pay232 (X 0)) (X 1) (X 2) (X 3) (X 4) (X 5) (X 6)) (X 7) (X 8) (X 9)) (X 2)) (k1_pay251 (M 0 2))) (k1_pay257 (k1_pay234 (k1_pay233 (k1_pay232 (X 0)) (X 1) (X 2) (X 3) (X 4) (X 5) (X 6)) (X 7) (X 8) (X 9)) (X 3)) (M 0 3)) (k1_pay264 (k1_pay234 (k1_pay233 (k1_pay232 (X 0)) (X 1) (X 2) (X 3) (X 4) (X 5) (X 6)) (X 7) (X 8) (X 9)) (X 4)) (M 0 4)) (k1_pay272 (X 5)) (M 0 5)) (X 6) (M 0 6)) (X 7) (M 0 7)) (X 8) (M 0 8)) (X 9) (M 0 9)) (k1_pay306 (k1_pay234 (k1_pay233 (k1_pay232 (X 0)) (X 1) (X 2) (X 3) (X 4) (X 5) (X 6)) (X 7) (X 8) (X 9)) (k1_pay298 (k1_pay234 (k1_pay233 (k1_pay232 (X 0)) (X 1) (X 2) (X 3) (X 4) (X 5) (X 6)) (X 7) (X 8) (X 9)) (k1_pay291 (k1_pay234 (k1_pay233 (k1_pay232 (X 0)) (X 1) (X 2) (X 3) (X 4) (X 5) (X 6)) (X 7) (X 8) (X 9)) (k1_pay283 (k1_pay234 (k1_pay233 (k1_pay232 (X 0)) (X 1) (X 2) (X 3) (X 4) (X 5) (X 6)) (X 7) (X 8) (X 9)) (k1_pay276 (k1_pay234 (k1_pay233 (k1_pay232 (X 0)) (X 1) (X 2) (X 3) (X 4) (X 5) (X 6)) (X 7) (X 8) (X 9)) (k1_pay268 (k1_pay260 (k1_pay253 (k1_pay245 (k1_pay238 (k1_pay235 (k1_pay233 (k1_pay232 (X 0)) (X 1) (X 2) (X 3) (X 4) (X 5) (X 6)) (X 7) (X 8) (X 9) (X 0)) (M 1 0)) (k1_pay242 (k1_pay234 (k1_pay233 (k1_pay232 (X 0)) (X 1) (X 2) (X 3) (X 4) (X 5) (X 6)) (X 7) (X 8) (X 9)) (X 1)) (M 1 1)) (k1_pay249 (k1_pay234 (k1_pay233 (k1_pay232 (X 0)) (X 1) (X 2) (X 3) (X 4) (X 5) (X 6)) (X 7) (X 8) (X 9)) (X 2)) (M 1 2)) (k1_pay257 (k1_pay234 (k1_pay233 (k1_pay232 (X 0)) (X 1) (X 2) (X 3) (X 4) (X 5) (X 6)) (X 7) (X 8) (X 9)) (X 3)) (M 1 3)) (k1_pay264 (k1_pay234 (k1_pay233 (k1_pay232 (X 0)) (X 1) (X 2) (X 3) (X 4) (X 5) (X 6)) (X 7) (X 8) (X 9)) (X 4)) (M 1 4)) (k1_pay272 (X 5)) (M 1 5)) (X 6) (M 1 6)) (X 7) (M 1 7)) (X 8) (M 1 8)) (X 9) (M 1 9)) (k1_pay307 (k1_pay234 (k1_pay233 (k1_pay232 (X 0)) (X 1) (X 2) (X 3) (X 4) (X 5) (X 6)) (X 7) (X 8) (X 9)) (k1_pay299 (k1_pay234 (k1_pay233 (k1_pay232 (X 0)) (X 1) (X 2) (X 3) (X 4) (X 5) (X 6)) (X 7) (X 8) (X 9)) (k1_pay292 (k1_pay234 (k1_pay233 (k1_pay232 (X 0)) (X 1) (X 2) (X 3) (X 4) (X 5) (X 6)) (X 7) (X 8) (X 9)) (k1_pay284 (k1_pay234 (k1_pay233 (k1_pay232 (X 0)) (X 1) (X 2) (X 3) (X 4) (X 5) (X 6)) (X 7) (X 8) (X 9)) (k1_pay277 (k1_pay234 (k1_pay233 (k1_pay232 (X 0)) (X 1) (X 2) (X 3) (X 4) (X 5) (X 6)) (X 7) (X 8) (X 9)) (k1_pay269 (k1_pay261 (k1_pay254 (k1_pay246 (k1_pay239 (k1_pay235 (k1_pay233 (k1_pay232 (X 0)) (X 1) (X 2) (X 3) (X 4) (X 5) (X 6)) (X 7) (X 8) (X 9) (X 0)) (M 2 0)) (k1_pay242 (k1_pay234 (k1_pay233 (k1_pay232 (X 0)) (X 1) (X 2) (X 3) (X 4) (X 5) (X 6)) (X 7) (X 8) (X 9)) (X 1)) (M 2 1)) (k1_pay249 (k1_pay234 (k1_pay233 (k1_pay232 (X 0)) (X 1) (X 2) (X 3) (X 4) (X 5) (X 6)) (X 7) (X 8) (X 9)) (X 2)) (M 2 2)) (k1_pay257 (k1_pay234 (k1_pay233 (k1_pay232 (X 0)) (X 1) (X 2) (X 3) (X 4) (X 5) (X 6)) (X 7) (X 8) (X 9)) (X 3)) (M 2 3)) (k1_pay264 (k1_pay234 (k1_pay233 (k1_pay232 (X 0)) (X 1) (X 2) (X 3) (X 4) (X 5) (X 6)) (X 7) (X 8) (X 9)) (X 4)) (M 2 4)) (k1_pay272 (X 5)) (M 2 5)) (X 6) (M 2 6)) (X 7) (M 2 7)) (X 8) (M 2 8)) (X 9) (M 2 9)) (M 3 9) (M 4 9) (ix3 0 0 p) = agg (sims X (k1_pay234 (k1_pay233 (k1_pay232 (X 0)) (X 1) (X 2) (X 3) (X 4) (X 5) (X 6)) (X 7) (X 8) (X 9)) M) p := by
  pointwise [k1_pay235, k1_pay237, k1_pay238, k1_pay239, k1_pay240, k1_pay241, k1_pay242, k1_pay244, k1_pay245, k1_pay246, k1_pay247, k1_pay248, k1_pay249, k1_pay251, k1_pay252, k1_pay253, k1_pay254, k1_pay255, k1_pay256, k1_pay257, k1_pay259, k1_pay260, k1_pay261, k1_pay262, k1_pay263, k1_pay264, k1_pay267, k1_pay268, k1_pay269, k1_pay270, k1_pay271, k1_pay272, k1_pay273, k1_pay275, k1_pay276, k1_pay277, k1_pay278, k1_pay279, k1_pay280, k1_pay282, k1_pay283, k1_pay284, k1_pay285, k1_pay286, k1_pay287, k1_pay288, k1_pay290, k1_pay291, k1_pay292, k1_pay293, k1_pay294, k1_pay295, k1_pay297, k1_pay298, k1_pay299, k1_pay300, k1_pay301, k1_pay302, k1_pay303, k1_pay305, k1_pay306, k1_pay307, k1_pay308]
  generalize (k1_pay234 (k1_pay233 (k1_pay232 (X 0)) (X 1) (X 2) (X 3) (X 4) (X 5) (X 6)) (X 7) (X 8) (X 9)) = V
  have L := ladder X V M
  simp only [sims] at L
  simp only [L, bits_neg_inf, agg, softmax, rowMax, sims]
  rfl

end Cert.Dn4.Region1

end
-- ==== Proof.Region1Rows2.lean ====
/- The second stage on queries 4 to 5 of a block of eight: the kernel's own terms. -/
module

public import proofs.«01_k».proof.Proof.Region1

@[expose] public section

set_option maxRecDepth 16384

noncomputable section

namespace Cert.Dn4.Region1

open Cert.KernelIdeal Cert.KernelIdeal.Gen
open Idealize.ShloMosaic Idealize.ShloMosaic.TcCoe Idealize.SL.Sem

theorem recip4 (X : Fin 10 → Vec Ideal S1x64x441 .f32) (p : Fin 441) : (k1_pay313 (k1_pay311 (k1_pay309 (X 0)) (k1_pay310 (X 1)) (X 2) (X 3) (X 4) (X 5) (X 6)) (k1_pay312 (X 7)) (X 8) (X 9)) (ix2 0 p) = recip X p := by
  pointwise [k1_pay309, k1_pay310, k1_pay311, k1_pay312, k1_pay313]
  rfl

theorem chunk4_0 (X : Fin 10 → Vec Ideal S1x64x441 .f32) (c : Fin 64) (p : Fin 441) :
    k1_pay315 (k1_pay311 (k1_pay309 (X 0)) (k1_pay310 (X 1)) (X 2) (X 3) (X 4) (X 5) (X 6)) (k1_pay312 (X 7)) (X 8) (X 9) (X 0) (ix3 0 c p) = X 0 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay314, k1_pay315]

theorem chunk4_1 (X : Fin 10 → Vec Ideal S1x64x441 .f32) (c : Fin 64) (p : Fin 441) :
    k1_pay323 (k1_pay313 (k1_pay311 (k1_pay309 (X 0)) (k1_pay310 (X 1)) (X 2) (X 3) (X 4) (X 5) (X 6)) (k1_pay312 (X 7)) (X 8) (X 9)) (X 1) (ix3 0 c p) = X 1 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay322, k1_pay323]

theorem chunk4_2 (X : Fin 10 → Vec Ideal S1x64x441 .f32) (c : Fin 64) (p : Fin 441) :
    k1_pay330 (k1_pay313 (k1_pay311 (k1_pay309 (X 0)) (k1_pay310 (X 1)) (X 2) (X 3) (X 4) (X 5) (X 6)) (k1_pay312 (X 7)) (X 8) (X 9)) (X 2) (ix3 0 c p) = X 2 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay329, k1_pay330]

theorem chunk4_3 (X : Fin 10 → Vec Ideal S1x64x441 .f32) (c : Fin 64) (p : Fin 441) :
    k1_pay338 (k1_pay313 (k1_pay311 (k1_pay309 (X 0)) (k1_pay310 (X 1)) (X 2) (X 3) (X 4) (X 5) (X 6)) (k1_pay312 (X 7)) (X 8) (X 9)) (X 3) (ix3 0 c p) = X 3 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay337, k1_pay338]

theorem chunk4_4 (X : Fin 10 → Vec Ideal S1x64x441 .f32) (c : Fin 64) (p : Fin 441) :
    k1_pay345 (k1_pay313 (k1_pay311 (k1_pay309 (X 0)) (k1_pay310 (X 1)) (X 2) (X 3) (X 4) (X 5) (X 6)) (k1_pay312 (X 7)) (X 8) (X 9)) (X 4) (ix3 0 c p) = X 4 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay344, k1_pay345]

theorem chunk4_5 (X : Fin 10 → Vec Ideal S1x64x441 .f32) (c : Fin 64) (p : Fin 441) :
    k1_pay353 (k1_pay352 (k1_pay313 (k1_pay311 (k1_pay309 (X 0)) (k1_pay310 (X 1)) (X 2) (X 3) (X 4) (X 5) (X 6)) (k1_pay312 (X 7)) (X 8) (X 9)) (X 5)) (ix3 0 c p) = X 5 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay351, k1_pay352, k1_pay353]

theorem chunk4_6 (X : Fin 10 → Vec Ideal S1x64x441 .f32) (c : Fin 64) (p : Fin 441) :
    k1_pay360 (k1_pay313 (k1_pay311 (k1_pay309 (X 0)) (k1_pay310 (X 1)) (X 2) (X 3) (X 4) (X 5) (X 6)) (k1_pay312 (X 7)) (X 8) (X 9)) (X 6) (ix3 0 c p) = X 6 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay359, k1_pay360]

theorem chunk4_7 (X : Fin 10 → Vec Ideal S1x64x441 .f32) (c : Fin 64) (p : Fin 441) :
    k1_pay368 (k1_pay313 (k1_pay311 (k1_pay309 (X 0)) (k1_pay310 (X 1)) (X 2) (X 3) (X 4) (X 5) (X 6)) (k1_pay312 (X 7)) (X 8) (X 9)) (X 7) (ix3 0 c p) = X 7 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay367, k1_pay368]

theorem chunk4_8 (X : Fin 10 → Vec Ideal S1x64x441 .f32) (c : Fin 64) (p : Fin 441) :
    k1_pay375 (k1_pay313 (k1_pay311 (k1_pay309 (X 0)) (k1_pay310 (X 1)) (X 2) (X 3) (X 4) (X 5) (X 6)) (k1_pay312 (X 7)) (X 8) (X 9)) (X 8) (ix3 0 c p) = X 8 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay374, k1_pay375]

theorem chunk4_9 (X : Fin 10 → Vec Ideal S1x64x441 .f32) (c : Fin 64) (p : Fin 441) :
    k1_pay383 (k1_pay313 (k1_pay311 (k1_pay309 (X 0)) (k1_pay310 (X 1)) (X 2) (X 3) (X 4) (X 5) (X 6)) (k1_pay312 (X 7)) (X 8) (X 9)) (X 9) (ix3 0 c p) = X 9 (ix3 0 c p) * (k1_pay313 (k1_pay311 (k1_pay309 (X 0)) (k1_pay310 (X 1)) (X 2) (X 3) (X 4) (X 5) (X 6)) (k1_pay312 (X 7)) (X 8) (X 9)) (ix2 0 p) := by
  pointwise [k1_pay382, k1_pay383]

theorem row4 (X : Fin 10 → Vec Ideal S1x64x441 .f32) (M : Fin 5 → Fin 10 → Vec Ideal S1x64x441 .f32) (p : Fin 441) :
    k1_pay387 (k1_pay380 (k1_pay372 (k1_pay313 (k1_pay311 (k1_pay309 (X 0)) (k1_pay310 (X 1)) (X 2) (X 3) (X 4) (X 5) (X 6)) (k1_pay312 (X 7)) (X 8) (X 9)) (k1_pay364 (k1_pay313 (k1_pay311 (k1_pay309 (X 0)) (k1_pay310 (X 1)) (X 2) (X 3) (X 4) (X 5) (X 6)) (k1_pay312 (X 7)) (X 8) (X 9)) (k1_pay357 (k1_pay349 (k1_pay342 (k1_pay335 (k1_pay327 (k1_pay320 (k1_pay314 (k1_pay311 (k1_pay309 (X 0)) (k1_pay310 (X 1)) (X 2) (X 3) (X 4) (X 5) (X 6)) (k1_pay312 (X 7)) (X 8) (X 9) (X 0)) (M 3 0)) (k1_pay322 (k1_pay313 (k1_pay311 (k1_pay309 (X 0)) (k1_pay310 (X 1)) (X 2) (X 3) (X 4) (X 5) (X 6)) (k1_pay312 (X 7)) (X 8) (X 9)) (X 1)) (M 3 1)) (k1_pay329 (k1_pay313 (k1_pay311 (k1_pay309 (X 0)) (k1_pay310 (X 1)) (X 2) (X 3) (X 4) (X 5) (X 6)) (k1_pay312 (X 7)) (X 8) (X 9)) (X 2)) (M 3 2)) (k1_pay337 (k1_pay313 (k1_pay311 (k1_pay309 (X 0)) (k1_pay310 (X 1)) (X 2) (X 3) (X 4) (X 5) (X 6)) (k1_pay312 (X 7)) (X 8) (X 9)) (X 3)) (M 3 3)) (k1_pay344 (k1_pay313 (k1_pay311 (k1_pay309 (X 0)) (k1_pay310 (X 1)) (X 2) (X 3) (X 4) (X 5) (X 6)) (k1_pay312 (X 7)) (X 8) (X 9)) (X 4)) (M 3 4)) (k1_pay351 (k1_pay313 (k1_pay311 (k1_pay309 (X 0)) (k1_pay310 (X 1)) (X 2) (X 3) (X 4) (X 5) (X 6)) (k1_pay312 (X 7)) (X 8) (X 9)) (X 5)) (M 3 5)) (X 6) (M 3 6)) (X 7) (M 3 7)) (k1_pay379 (k1_pay313 (k1_pay311 (k1_pay309 (X 0)) (k1_pay310 (X 1)) (X 2) (X 3) (X 4) (X 5) (X 6)) (k1_pay312 (X 7)) (X 8) (X 9)) (X 8) (M 3 8))) (k1_pay381 (k1_pay373 (k1_pay366 (k1_pay358 (k1_pay350 (k1_pay343 (k1_pay336 (k1_pay328 (k1_pay321 (k1_pay314 (k1_pay311 (k1_pay309 (X 0)) (k1_pay310 (X 1)) (X 2) (X 3) (X 4) (X 5) (X 6)) (k1_pay312 (X 7)) (X 8) (X 9) (X 0)) (M 4 0)) (k1_pay322 (k1_pay313 (k1_pay311 (k1_pay309 (X 0)) (k1_pay310 (X 1)) (X 2) (X 3) (X 4) (X 5) (X 6)) (k1_pay312 (X 7)) (X 8) (X 9)) (X 1)) (M 4 1)) (k1_pay329 (k1_pay313 (k1_pay311 (k1_pay309 (X 0)) (k1_pay310 (X 1)) (X 2) (X 3) (X 4) (X 5) (X 6)) (k1_pay312 (X 7)) (X 8) (X 9)) (X 2)) (M 4 2)) (k1_pay337 (k1_pay313 (k1_pay311 (k1_pay309 (X 0)) (k1_pay310 (X 1)) (X 2) (X 3) (X 4) (X 5) (X 6)) (k1_pay312 (X 7)) (X 8) (X 9)) (X 3)) (M 4 3)) (k1_pay344 (k1_pay313 (k1_pay311 (k1_pay309 (X 0)) (k1_pay310 (X 1)) (X 2) (X 3) (X 4) (X 5) (X 6)) (k1_pay312 (X 7)) (X 8) (X 9)) (X 4)) (M 4 4)) (k1_pay351 (k1_pay313 (k1_pay311 (k1_pay309 (X 0)) (k1_pay310 (X 1)) (X 2) (X 3) (X 4) (X 5) (X 6)) (k1_pay312 (X 7)) (X 8) (X 9)) (X 5)) (M 4 5)) (k1_pay365 (k1_pay313 (k1_pay311 (k1_pay309 (X 0)) (k1_pay310 (X 1)) (X 2) (X 3) (X 4) (X 5) (X 6)) (k1_pay312 (X 7)) (X 8) (X 9)) (X 6) (M 4 6))) (k1_pay367 (k1_pay313 (k1_pay311 (k1_pay309 (X 0)) (k1_pay310 (X 1)) (X 2) (X 3) (X 4) (X 5) (X 6)) (k1_pay312 (X 7)) (X 8) (X 9)) (X 7)) (M 4 7)) (k1_pay374 (k1_pay313 (k1_pay311 (k1_pay309 (X 0)) (k1_pay310 (X 1)) (X 2) (X 3) (X 4) (X 5) (X 6)) (k1_pay312 (X 7)) (X 8) (X 9)) (X 8)) (M 4 8)) (k1_pay382 (k1_pay313 (k1_pay311 (k1_pay309 (X 0)) (k1_pay310 (X 1)) (X 2) (X 3) (X 4) (X 5) (X 6)) (k1_pay312 (X 7)) (X 8) (X 9)) (X 9)) (k1_pay384 (k1_pay313 (k1_pay311 (k1_pay309 (X 0)) (k1_pay310 (X 1)) (X 2) (X 3) (X 4) (X 5) (X 6)) (k1_pay312 (X 7)) (X 8) (X 9)) (k1_pay376 (k1_pay313 (k1_pay311 (k1_pay309 (X 0)) (k1_pay310 (X 1)) (X 2) (X 3) (X 4) (X 5) (X 6)) (k1_pay312 (X 7)) (X 8) (X 9)) (k1_pay369 (k1_pay313 (k1_pay311 (k1_pay309 (X 0)) (k1_pay310 (X 1)) (X 2) (X 3) (X 4) (X 5) (X 6)) (k1_pay312 (X 7)) (X 8) (X 9)) (k1_pay361 (k1_pay313 (k1_pay311 (k1_pay309 (X 0)) (k1_pay310 (X 1)) (X 2) (X 3) (X 4) (X 5) (X 6)) (k1_pay312 (X 7)) (X 8) (X 9)) (k1_pay354 (k1_pay346 (k1_pay339 (k1_pay332 (k1_pay324 (k1_pay313 (k1_pay311 (k1_pay309 (X 0)) (k1_pay310 (X 1)) (X 2) (X 3) (X 4) (X 5) (X 6)) (k1_pay312 (X 7)) (X 8) (X 9)) (k1_pay316 (k1_pay311 (k1_pay309 (X 0)) (k1_pay310 (X 1)) (X 2) (X 3) (X 4) (X 5) (X 6)) (k1_pay312 (X 7)) (X 8) (X 9) (X 0) (M 0 0)) (X 1) (M 0 1)) (k1_pay331 (k1_pay313 (k1_pay311 (k1_pay309 (X 0)) (k1_pay310 (X 1)) (X 2) (X 3) (X 4) (X 5) (X 6)) (k1_pay312 (X 7)) (X 8) (X 9)) (X 2) (M 0 2))) (k1_pay337 (k1_pay313 (k1_pay311 (k1_pay309 (X 0)) (k1_pay310 (X 1)) (X 2) (X 3) (X 4) (X 5) (X 6)) (k1_pay312 (X 7)) (X 8) (X 9)) (X 3)) (M 0 3)) (k1_pay344 (k1_pay313 (k1_pay311 (k1_pay309 (X 0)) (k1_pay310 (X 1)) (X 2) (X 3) (X 4) (X 5) (X 6)) (k1_pay312 (X 7)) (X 8) (X 9)) (X 4)) (M 0 4)) (k1_pay351 (k1_pay313 (k1_pay311 (k1_pay309 (X 0)) (k1_pay310 (X 1)) (X 2) (X 3) (X 4) (X 5) (X 6)) (k1_pay312 (X 7)) (X 8) (X 9)) (X 5)) (M 0 5)) (X 6) (M 0 6)) (X 7) (M 0 7)) (X 8) (M 0 8)) (X 9) (M 0 9)) (k1_pay385 (k1_pay313 (k1_pay311 (k1_pay309 (X 0)) (k1_pay310 (X 1)) (X 2) (X 3) (X 4) (X 5) (X 6)) (k1_pay312 (X 7)) (X 8) (X 9)) (k1_pay377 (k1_pay313 (k1_pay311 (k1_pay309 (X 0)) (k1_pay310 (X 1)) (X 2) (X 3) (X 4) (X 5) (X 6)) (k1_pay312 (X 7)) (X 8) (X 9)) (k1_pay370 (k1_pay313 (k1_pay311 (k1_pay309 (X 0)) (k1_pay310 (X 1)) (X 2) (X 3) (X 4) (X 5) (X 6)) (k1_pay312 (X 7)) (X 8) (X 9)) (k1_pay362 (k1_pay313 (k1_pay311 (k1_pay309 (X 0)) (k1_pay310 (X 1)) (X 2) (X 3) (X 4) (X 5) (X 6)) (k1_pay312 (X 7)) (X 8) (X 9)) (k1_pay355 (k1_pay347 (k1_pay340 (k1_pay333 (k1_pay325 (k1_pay318 (k1_pay314 (k1_pay311 (k1_pay309 (X 0)) (k1_pay310 (X 1)) (X 2) (X 3) (X 4) (X 5) (X 6)) (k1_pay312 (X 7)) (X 8) (X 9) (X 0)) (k1_pay317 (M 1 0))) (k1_pay322 (k1_pay313 (k1_pay311 (k1_pay309 (X 0)) (k1_pay310 (X 1)) (X 2) (X 3) (X 4) (X 5) (X 6)) (k1_pay312 (X 7)) (X 8) (X 9)) (X 1)) (M 1 1)) (k1_pay329 (k1_pay313 (k1_pay311 (k1_pay309 (X 0)) (k1_pay310 (X 1)) (X 2) (X 3) (X 4) (X 5) (X 6)) (k1_pay312 (X 7)) (X 8) (X 9)) (X 2)) (M 1 2)) (k1_pay337 (k1_pay313 (k1_pay311 (k1_pay309 (X 0)) (k1_pay310 (X 1)) (X 2) (X 3) (X 4) (X 5) (X 6)) (k1_pay312 (X 7)) (X 8) (X 9)) (X 3)) (M 1 3)) (k1_pay344 (k1_pay313 (k1_pay311 (k1_pay309 (X 0)) (k1_pay310 (X 1)) (X 2) (X 3) (X 4) (X 5) (X 6)) (k1_pay312 (X 7)) (X 8) (X 9)) (X 4)) (M 1 4)) (k1_pay351 (k1_pay313 (k1_pay311 (k1_pay309 (X 0)) (k1_pay310 (X 1)) (X 2) (X 3) (X 4) (X 5) (X 6)) (k1_pay312 (X 7)) (X 8) (X 9)) (X 5)) (M 1 5)) (X 6) (M 1 6)) (X 7) (M 1 7)) (X 8) (M 1 8)) (X 9) (M 1 9)) (k1_pay386 (k1_pay313 (k1_pay311 (k1_pay309 (X 0)) (k1_pay310 (X 1)) (X 2) (X 3) (X 4) (X 5) (X 6)) (k1_pay312 (X 7)) (X 8) (X 9)) (k1_pay378 (k1_pay313 (k1_pay311 (k1_pay309 (X 0)) (k1_pay310 (X 1)) (X 2) (X 3) (X 4) (X 5) (X 6)) (k1_pay312 (X 7)) (X 8) (X 9)) (k1_pay371 (k1_pay313 (k1_pay311 (k1_pay309 (X 0)) (k1_pay310 (X 1)) (X 2) (X 3) (X 4) (X 5) (X 6)) (k1_pay312 (X 7)) (X 8) (X 9)) (k1_pay363 (k1_pay313 (k1_pay311 (k1_pay309 (X 0)) (k1_pay310 (X 1)) (X 2) (X 3) (X 4) (X 5) (X 6)) (k1_pay312 (X 7)) (X 8) (X 9)) (k1_pay356 (k1_pay348 (k1_pay341 (k1_pay334 (k1_pay326 (k1_pay319 (k1_pay314 (k1_pay311 (k1_pay309 (X 0)) (k1_pay310 (X 1)) (X 2) (X 3) (X 4) (X 5) (X 6)) (k1_pay312 (X 7)) (X 8) (X 9) (X 0)) (M 2 0)) (k1_pay322 (k1_pay313 (k1_pay311 (k1_pay309 (X 0)) (k1_pay310 (X 1)) (X 2) (X 3) (X 4) (X 5) (X 6)) (k1_pay312 (X 7)) (X 8) (X 9)) (X 1)) (M 2 1)) (k1_pay329 (k1_pay313 (k1_pay311 (k1_pay309 (X 0)) (k1_pay310 (X 1)) (X 2) (X 3) (X 4) (X 5) (X 6)) (k1_pay312 (X 7)) (X 8) (X 9)) (X 2)) (M 2 2)) (k1_pay337 (k1_pay313 (k1_pay311 (k1_pay309 (X 0)) (k1_pay310 (X 1)) (X 2) (X 3) (X 4) (X 5) (X 6)) (k1_pay312 (X 7)) (X 8) (X 9)) (X 3)) (M 2 3)) (k1_pay344 (k1_pay313 (k1_pay311 (k1_pay309 (X 0)) (k1_pay310 (X 1)) (X 2) (X 3) (X 4) (X 5) (X 6)) (k1_pay312 (X 7)) (X 8) (X 9)) (X 4)) (M 2 4)) (k1_pay351 (k1_pay313 (k1_pay311 (k1_pay309 (X 0)) (k1_pay310 (X 1)) (X 2) (X 3) (X 4) (X 5) (X 6)) (k1_pay312 (X 7)) (X 8) (X 9)) (X 5)) (M 2 5)) (X 6) (M 2 6)) (X 7) (M 2 7)) (X 8) (M 2 8)) (X 9) (M 2 9)) (M 3 9) (M 4 9) (ix3 0 0 p) = agg (sims X (k1_pay313 (k1_pay311 (k1_pay309 (X 0)) (k1_pay310 (X 1)) (X 2) (X 3) (X 4) (X 5) (X 6)) (k1_pay312 (X 7)) (X 8) (X 9)) M) p := by
  pointwise [k1_pay314, k1_pay316, k1_pay317, k1_pay318, k1_pay319, k1_pay320, k1_pay321, k1_pay322, k1_pay324, k1_pay325, k1_pay326, k1_pay327, k1_pay328, k1_pay329, k1_pay331, k1_pay332, k1_pay333, k1_pay334, k1_pay335, k1_pay336, k1_pay337, k1_pay339, k1_pay340, k1_pay341, k1_pay342, k1_pay343, k1_pay344, k1_pay346, k1_pay347, k1_pay348, k1_pay349, k1_pay350, k1_pay351, k1_pay354, k1_pay355, k1_pay356, k1_pay357, k1_pay358, k1_pay359, k1_pay361, k1_pay362, k1_pay363, k1_pay364, k1_pay365, k1_pay366, k1_pay367, k1_pay369, k1_pay370, k1_pay371, k1_pay372, k1_pay373, k1_pay374, k1_pay376, k1_pay377, k1_pay378, k1_pay379, k1_pay380, k1_pay381, k1_pay382, k1_pay384, k1_pay385, k1_pay386, k1_pay387]
  generalize (k1_pay313 (k1_pay311 (k1_pay309 (X 0)) (k1_pay310 (X 1)) (X 2) (X 3) (X 4) (X 5) (X 6)) (k1_pay312 (X 7)) (X 8) (X 9)) = V
  have L := ladder X V M
  simp only [sims] at L
  simp only [L, bits_neg_inf, agg, softmax, rowMax, sims]
  rfl

theorem recip5 (X : Fin 10 → Vec Ideal S1x64x441 .f32) (p : Fin 441) : (k1_pay390 (k1_pay389 (k1_pay388 (X 0) (X 1)) (X 2) (X 3) (X 4) (X 5) (X 6) (X 7)) (X 8) (X 9)) (ix2 0 p) = recip X p := by
  pointwise [k1_pay388, k1_pay389, k1_pay390]
  rfl

theorem chunk5_0 (X : Fin 10 → Vec Ideal S1x64x441 .f32) (c : Fin 64) (p : Fin 441) :
    k1_pay392 (k1_pay389 (k1_pay388 (X 0) (X 1)) (X 2) (X 3) (X 4) (X 5) (X 6) (X 7)) (X 8) (X 9) (X 0) (ix3 0 c p) = X 0 (ix3 0 c p) * (k1_pay390 (k1_pay389 (k1_pay388 (X 0) (X 1)) (X 2) (X 3) (X 4) (X 5) (X 6) (X 7)) (X 8) (X 9)) (ix2 0 p) := by
  pointwise [k1_pay391, k1_pay392]

theorem chunk5_1 (X : Fin 10 → Vec Ideal S1x64x441 .f32) (c : Fin 64) (p : Fin 441) :
    k1_pay399 (k1_pay390 (k1_pay389 (k1_pay388 (X 0) (X 1)) (X 2) (X 3) (X 4) (X 5) (X 6) (X 7)) (X 8) (X 9)) (X 1) (ix3 0 c p) = X 1 (ix3 0 c p) * (k1_pay390 (k1_pay389 (k1_pay388 (X 0) (X 1)) (X 2) (X 3) (X 4) (X 5) (X 6) (X 7)) (X 8) (X 9)) (ix2 0 p) := by
  pointwise [k1_pay398, k1_pay399]

theorem chunk5_2 (X : Fin 10 → Vec Ideal S1x64x441 .f32) (c : Fin 64) (p : Fin 441) :
    k1_pay407 (k1_pay390 (k1_pay389 (k1_pay388 (X 0) (X 1)) (X 2) (X 3) (X 4) (X 5) (X 6) (X 7)) (X 8) (X 9)) (X 2) (ix3 0 c p) = X 2 (ix3 0 c p) * (k1_pay390 (k1_pay389 (k1_pay388 (X 0) (X 1)) (X 2) (X 3) (X 4) (X 5) (X 6) (X 7)) (X 8) (X 9)) (ix2 0 p) := by
  pointwise [k1_pay406, k1_pay407]

theorem chunk5_3 (X : Fin 10 → Vec Ideal S1x64x441 .f32) (c : Fin 64) (p : Fin 441) :
    k1_pay414 (k1_pay390 (k1_pay389 (k1_pay388 (X 0) (X 1)) (X 2) (X 3) (X 4) (X 5) (X 6) (X 7)) (X 8) (X 9)) (X 3) (ix3 0 c p) = X 3 (ix3 0 c p) * (k1_pay390 (k1_pay389 (k1_pay388 (X 0) (X 1)) (X 2) (X 3) (X 4) (X 5) (X 6) (X 7)) (X 8) (X 9)) (ix2 0 p) := by
  pointwise [k1_pay413, k1_pay414]

theorem chunk5_4 (X : Fin 10 → Vec Ideal S1x64x441 .f32) (c : Fin 64) (p : Fin 441) :
    k1_pay422 (k1_pay390 (k1_pay389 (k1_pay388 (X 0) (X 1)) (X 2) (X 3) (X 4) (X 5) (X 6) (X 7)) (X 8) (X 9)) (X 4) (ix3 0 c p) = X 4 (ix3 0 c p) * (k1_pay390 (k1_pay389 (k1_pay388 (X 0) (X 1)) (X 2) (X 3) (X 4) (X 5) (X 6) (X 7)) (X 8) (X 9)) (ix2 0 p) := by
  pointwise [k1_pay421, k1_pay422]

theorem chunk5_5 (X : Fin 10 → Vec Ideal S1x64x441 .f32) (c : Fin 64) (p : Fin 441) :
    k1_pay430 (k1_pay429 (k1_pay390 (k1_pay389 (k1_pay388 (X 0) (X 1)) (X 2) (X 3) (X 4) (X 5) (X 6) (X 7)) (X 8) (X 9)) (X 5)) (ix3 0 c p) = X 5 (ix3 0 c p) * (k1_pay390 (k1_pay389 (k1_pay388 (X 0) (X 1)) (X 2) (X 3) (X 4) (X 5) (X 6) (X 7)) (X 8) (X 9)) (ix2 0 p) := by
  pointwise [k1_pay428, k1_pay429, k1_pay430]

theorem chunk5_6 (X : Fin 10 → Vec Ideal S1x64x441 .f32) (c : Fin 64) (p : Fin 441) :
    k1_pay438 (k1_pay437 (k1_pay390 (k1_pay389 (k1_pay388 (X 0) (X 1)) (X 2) (X 3) (X 4) (X 5) (X 6) (X 7)) (X 8) (X 9)) (X 6)) (ix3 0 c p) = X 6 (ix3 0 c p) * (k1_pay390 (k1_pay389 (k1_pay388 (X 0) (X 1)) (X 2) (X 3) (X 4) (X 5) (X 6) (X 7)) (X 8) (X 9)) (ix2 0 p) := by
  pointwise [k1_pay436, k1_pay437, k1_pay438]

theorem chunk5_7 (X : Fin 10 → Vec Ideal S1x64x441 .f32) (c : Fin 64) (p : Fin 441) :
    k1_pay445 (k1_pay390 (k1_pay389 (k1_pay388 (X 0) (X 1)) (X 2) (X 3) (X 4) (X 5) (X 6) (X 7)) (X 8) (X 9)) (X 7) (ix3 0 c p) = X 7 (ix3 0 c p) * (k1_pay390 (k1_pay389 (k1_pay388 (X 0) (X 1)) (X 2) (X 3) (X 4) (X 5) (X 6) (X 7)) (X 8) (X 9)) (ix2 0 p) := by
  pointwise [k1_pay444, k1_pay445]

theorem chunk5_8 (X : Fin 10 → Vec Ideal S1x64x441 .f32) (c : Fin 64) (p : Fin 441) :
    k1_pay453 (k1_pay390 (k1_pay389 (k1_pay388 (X 0) (X 1)) (X 2) (X 3) (X 4) (X 5) (X 6) (X 7)) (X 8) (X 9)) (X 8) (ix3 0 c p) = X 8 (ix3 0 c p) * (k1_pay390 (k1_pay389 (k1_pay388 (X 0) (X 1)) (X 2) (X 3) (X 4) (X 5) (X 6) (X 7)) (X 8) (X 9)) (ix2 0 p) := by
  pointwise [k1_pay452, k1_pay453]

theorem chunk5_9 (X : Fin 10 → Vec Ideal S1x64x441 .f32) (c : Fin 64) (p : Fin 441) :
    k1_pay460 (k1_pay390 (k1_pay389 (k1_pay388 (X 0) (X 1)) (X 2) (X 3) (X 4) (X 5) (X 6) (X 7)) (X 8) (X 9)) (X 9) (ix3 0 c p) = X 9 (ix3 0 c p) * (k1_pay390 (k1_pay389 (k1_pay388 (X 0) (X 1)) (X 2) (X 3) (X 4) (X 5) (X 6) (X 7)) (X 8) (X 9)) (ix2 0 p) := by
  pointwise [k1_pay459, k1_pay460]

theorem row5 (X : Fin 10 → Vec Ideal S1x64x441 .f32) (M : Fin 5 → Fin 10 → Vec Ideal S1x64x441 .f32) (p : Fin 441) :
    k1_pay465 (k1_pay457 (k1_pay390 (k1_pay389 (k1_pay388 (X 0) (X 1)) (X 2) (X 3) (X 4) (X 5) (X 6) (X 7)) (X 8) (X 9)) (k1_pay449 (k1_pay390 (k1_pay389 (k1_pay388 (X 0) (X 1)) (X 2) (X 3) (X 4) (X 5) (X 6) (X 7)) (X 8) (X 9)) (k1_pay442 (k1_pay434 (k1_pay426 (k1_pay419 (k1_pay411 (k1_pay404 (k1_pay396 (k1_pay391 (k1_pay389 (k1_pay388 (X 0) (X 1)) (X 2) (X 3) (X 4) (X 5) (X 6) (X 7)) (X 8) (X 9) (X 0)) (M 3 0)) (k1_pay398 (k1_pay390 (k1_pay389 (k1_pay388 (X 0) (X 1)) (X 2) (X 3) (X 4) (X 5) (X 6) (X 7)) (X 8) (X 9)) (X 1)) (M 3 1)) (k1_pay406 (k1_pay390 (k1_pay389 (k1_pay388 (X 0) (X 1)) (X 2) (X 3) (X 4) (X 5) (X 6) (X 7)) (X 8) (X 9)) (X 2)) (M 3 2)) (k1_pay413 (k1_pay390 (k1_pay389 (k1_pay388 (X 0) (X 1)) (X 2) (X 3) (X 4) (X 5) (X 6) (X 7)) (X 8) (X 9)) (X 3)) (M 3 3)) (k1_pay421 (k1_pay390 (k1_pay389 (k1_pay388 (X 0) (X 1)) (X 2) (X 3) (X 4) (X 5) (X 6) (X 7)) (X 8) (X 9)) (X 4)) (M 3 4)) (k1_pay428 (k1_pay390 (k1_pay389 (k1_pay388 (X 0) (X 1)) (X 2) (X 3) (X 4) (X 5) (X 6) (X 7)) (X 8) (X 9)) (X 5)) (M 3 5)) (k1_pay436 (k1_pay390 (k1_pay389 (k1_pay388 (X 0) (X 1)) (X 2) (X 3) (X 4) (X 5) (X 6) (X 7)) (X 8) (X 9)) (X 6)) (M 3 6)) (X 7) (M 3 7)) (X 8) (M 3 8)) (k1_pay458 (k1_pay451 (k1_pay443 (k1_pay435 (k1_pay427 (k1_pay420 (k1_pay412 (k1_pay405 (k1_pay397 (k1_pay391 (k1_pay389 (k1_pay388 (X 0) (X 1)) (X 2) (X 3) (X 4) (X 5) (X 6) (X 7)) (X 8) (X 9) (X 0)) (M 4 0)) (k1_pay398 (k1_pay390 (k1_pay389 (k1_pay388 (X 0) (X 1)) (X 2) (X 3) (X 4) (X 5) (X 6) (X 7)) (X 8) (X 9)) (X 1)) (M 4 1)) (k1_pay406 (k1_pay390 (k1_pay389 (k1_pay388 (X 0) (X 1)) (X 2) (X 3) (X 4) (X 5) (X 6) (X 7)) (X 8) (X 9)) (X 2)) (M 4 2)) (k1_pay413 (k1_pay390 (k1_pay389 (k1_pay388 (X 0) (X 1)) (X 2) (X 3) (X 4) (X 5) (X 6) (X 7)) (X 8) (X 9)) (X 3)) (M 4 3)) (k1_pay421 (k1_pay390 (k1_pay389 (k1_pay388 (X 0) (X 1)) (X 2) (X 3) (X 4) (X 5) (X 6) (X 7)) (X 8) (X 9)) (X 4)) (M 4 4)) (k1_pay428 (k1_pay390 (k1_pay389 (k1_pay388 (X 0) (X 1)) (X 2) (X 3) (X 4) (X 5) (X 6) (X 7)) (X 8) (X 9)) (X 5)) (M 4 5)) (k1_pay436 (k1_pay390 (k1_pay389 (k1_pay388 (X 0) (X 1)) (X 2) (X 3) (X 4) (X 5) (X 6) (X 7)) (X 8) (X 9)) (X 6)) (M 4 6)) (k1_pay450 (k1_pay390 (k1_pay389 (k1_pay388 (X 0) (X 1)) (X 2) (X 3) (X 4) (X 5) (X 6) (X 7)) (X 8) (X 9)) (X 7) (M 4 7))) (k1_pay452 (k1_pay390 (k1_pay389 (k1_pay388 (X 0) (X 1)) (X 2) (X 3) (X 4) (X 5) (X 6) (X 7)) (X 8) (X 9)) (X 8)) (M 4 8)) (k1_pay459 (k1_pay390 (k1_pay389 (k1_pay388 (X 0) (X 1)) (X 2) (X 3) (X 4) (X 5) (X 6) (X 7)) (X 8) (X 9)) (X 9)) (k1_pay461 (k1_pay390 (k1_pay389 (k1_pay388 (X 0) (X 1)) (X 2) (X 3) (X 4) (X 5) (X 6) (X 7)) (X 8) (X 9)) (k1_pay454 (k1_pay390 (k1_pay389 (k1_pay388 (X 0) (X 1)) (X 2) (X 3) (X 4) (X 5) (X 6) (X 7)) (X 8) (X 9)) (k1_pay446 (k1_pay390 (k1_pay389 (k1_pay388 (X 0) (X 1)) (X 2) (X 3) (X 4) (X 5) (X 6) (X 7)) (X 8) (X 9)) (k1_pay439 (k1_pay431 (k1_pay423 (k1_pay416 (k1_pay408 (k1_pay390 (k1_pay389 (k1_pay388 (X 0) (X 1)) (X 2) (X 3) (X 4) (X 5) (X 6) (X 7)) (X 8) (X 9)) (k1_pay400 (k1_pay390 (k1_pay389 (k1_pay388 (X 0) (X 1)) (X 2) (X 3) (X 4) (X 5) (X 6) (X 7)) (X 8) (X 9)) (k1_pay393 (k1_pay389 (k1_pay388 (X 0) (X 1)) (X 2) (X 3) (X 4) (X 5) (X 6) (X 7)) (X 8) (X 9) (X 0) (M 0 0)) (X 1) (M 0 1)) (X 2) (M 0 2)) (k1_pay415 (k1_pay390 (k1_pay389 (k1_pay388 (X 0) (X 1)) (X 2) (X 3) (X 4) (X 5) (X 6) (X 7)) (X 8) (X 9)) (X 3) (M 0 3))) (k1_pay421 (k1_pay390 (k1_pay389 (k1_pay388 (X 0) (X 1)) (X 2) (X 3) (X 4) (X 5) (X 6) (X 7)) (X 8) (X 9)) (X 4)) (M 0 4)) (k1_pay428 (k1_pay390 (k1_pay389 (k1_pay388 (X 0) (X 1)) (X 2) (X 3) (X 4) (X 5) (X 6) (X 7)) (X 8) (X 9)) (X 5)) (M 0 5)) (k1_pay436 (k1_pay390 (k1_pay389 (k1_pay388 (X 0) (X 1)) (X 2) (X 3) (X 4) (X 5) (X 6) (X 7)) (X 8) (X 9)) (X 6)) (M 0 6)) (X 7) (M 0 7)) (X 8) (M 0 8)) (X 9) (M 0 9)) (k1_pay462 (k1_pay390 (k1_pay389 (k1_pay388 (X 0) (X 1)) (X 2) (X 3) (X 4) (X 5) (X 6) (X 7)) (X 8) (X 9)) (k1_pay455 (k1_pay390 (k1_pay389 (k1_pay388 (X 0) (X 1)) (X 2) (X 3) (X 4) (X 5) (X 6) (X 7)) (X 8) (X 9)) (k1_pay447 (k1_pay390 (k1_pay389 (k1_pay388 (X 0) (X 1)) (X 2) (X 3) (X 4) (X 5) (X 6) (X 7)) (X 8) (X 9)) (k1_pay440 (k1_pay432 (k1_pay424 (k1_pay417 (k1_pay409 (k1_pay402 (k1_pay394 (k1_pay389 (k1_pay388 (X 0) (X 1)) (X 2) (X 3) (X 4) (X 5) (X 6) (X 7)) (X 8) (X 9) (X 0) (M 1 0)) (k1_pay401 (k1_pay390 (k1_pay389 (k1_pay388 (X 0) (X 1)) (X 2) (X 3) (X 4) (X 5) (X 6) (X 7)) (X 8) (X 9)) (X 1) (M 1 1))) (k1_pay406 (k1_pay390 (k1_pay389 (k1_pay388 (X 0) (X 1)) (X 2) (X 3) (X 4) (X 5) (X 6) (X 7)) (X 8) (X 9)) (X 2)) (M 1 2)) (k1_pay413 (k1_pay390 (k1_pay389 (k1_pay388 (X 0) (X 1)) (X 2) (X 3) (X 4) (X 5) (X 6) (X 7)) (X 8) (X 9)) (X 3)) (M 1 3)) (k1_pay421 (k1_pay390 (k1_pay389 (k1_pay388 (X 0) (X 1)) (X 2) (X 3) (X 4) (X 5) (X 6) (X 7)) (X 8) (X 9)) (X 4)) (M 1 4)) (k1_pay428 (k1_pay390 (k1_pay389 (k1_pay388 (X 0) (X 1)) (X 2) (X 3) (X 4) (X 5) (X 6) (X 7)) (X 8) (X 9)) (X 5)) (M 1 5)) (k1_pay436 (k1_pay390 (k1_pay389 (k1_pay388 (X 0) (X 1)) (X 2) (X 3) (X 4) (X 5) (X 6) (X 7)) (X 8) (X 9)) (X 6)) (M 1 6)) (X 7) (M 1 7)) (X 8) (M 1 8)) (X 9) (M 1 9)) (k1_pay463 (k1_pay390 (k1_pay389 (k1_pay388 (X 0) (X 1)) (X 2) (X 3) (X 4) (X 5) (X 6) (X 7)) (X 8) (X 9)) (k1_pay456 (k1_pay390 (k1_pay389 (k1_pay388 (X 0) (X 1)) (X 2) (X 3) (X 4) (X 5) (X 6) (X 7)) (X 8) (X 9)) (k1_pay448 (k1_pay390 (k1_pay389 (k1_pay388 (X 0) (X 1)) (X 2) (X 3) (X 4) (X 5) (X 6) (X 7)) (X 8) (X 9)) (k1_pay441 (k1_pay433 (k1_pay425 (k1_pay418 (k1_pay410 (k1_pay403 (k1_pay395 (k1_pay391 (k1_pay389 (k1_pay388 (X 0) (X 1)) (X 2) (X 3) (X 4) (X 5) (X 6) (X 7)) (X 8) (X 9) (X 0)) (M 2 0)) (k1_pay398 (k1_pay390 (k1_pay389 (k1_pay388 (X 0) (X 1)) (X 2) (X 3) (X 4) (X 5) (X 6) (X 7)) (X 8) (X 9)) (X 1)) (M 2 1)) (k1_pay406 (k1_pay390 (k1_pay389 (k1_pay388 (X 0) (X 1)) (X 2) (X 3) (X 4) (X 5) (X 6) (X 7)) (X 8) (X 9)) (X 2)) (M 2 2)) (k1_pay413 (k1_pay390 (k1_pay389 (k1_pay388 (X 0) (X 1)) (X 2) (X 3) (X 4) (X 5) (X 6) (X 7)) (X 8) (X 9)) (X 3)) (M 2 3)) (k1_pay421 (k1_pay390 (k1_pay389 (k1_pay388 (X 0) (X 1)) (X 2) (X 3) (X 4) (X 5) (X 6) (X 7)) (X 8) (X 9)) (X 4)) (M 2 4)) (k1_pay428 (k1_pay390 (k1_pay389 (k1_pay388 (X 0) (X 1)) (X 2) (X 3) (X 4) (X 5) (X 6) (X 7)) (X 8) (X 9)) (X 5)) (M 2 5)) (k1_pay436 (k1_pay390 (k1_pay389 (k1_pay388 (X 0) (X 1)) (X 2) (X 3) (X 4) (X 5) (X 6) (X 7)) (X 8) (X 9)) (X 6)) (M 2 6)) (X 7) (M 2 7)) (X 8) (M 2 8)) (X 9) (M 2 9)) (k1_pay464 (k1_pay390 (k1_pay389 (k1_pay388 (X 0) (X 1)) (X 2) (X 3) (X 4) (X 5) (X 6) (X 7)) (X 8) (X 9)) (X 9) (M 3 9)) (M 4 9) (ix3 0 0 p) = agg (sims X (k1_pay390 (k1_pay389 (k1_pay388 (X 0) (X 1)) (X 2) (X 3) (X 4) (X 5) (X 6) (X 7)) (X 8) (X 9)) M) p := by
  pointwise [k1_pay391, k1_pay393, k1_pay394, k1_pay395, k1_pay396, k1_pay397, k1_pay398, k1_pay400, k1_pay401, k1_pay402, k1_pay403, k1_pay404, k1_pay405, k1_pay406, k1_pay408, k1_pay409, k1_pay410, k1_pay411, k1_pay412, k1_pay413, k1_pay415, k1_pay416, k1_pay417, k1_pay418, k1_pay419, k1_pay420, k1_pay421, k1_pay423, k1_pay424, k1_pay425, k1_pay426, k1_pay427, k1_pay428, k1_pay431, k1_pay432, k1_pay433, k1_pay434, k1_pay435, k1_pay436, k1_pay439, k1_pay440, k1_pay441, k1_pay442, k1_pay443, k1_pay444, k1_pay446, k1_pay447, k1_pay448, k1_pay449, k1_pay450, k1_pay451, k1_pay452, k1_pay454, k1_pay455, k1_pay456, k1_pay457, k1_pay458, k1_pay459, k1_pay461, k1_pay462, k1_pay463, k1_pay464, k1_pay465]
  generalize (k1_pay390 (k1_pay389 (k1_pay388 (X 0) (X 1)) (X 2) (X 3) (X 4) (X 5) (X 6) (X 7)) (X 8) (X 9)) = V
  have L := ladder X V M
  simp only [sims] at L
  simp only [L, bits_neg_inf, agg, softmax, rowMax, sims]
  rfl

end Cert.Dn4.Region1

end
-- ==== Proof.Region1Rows3.lean ====
/- The second stage on queries 6 to 7 of a block of eight: the kernel's own terms. -/
module

public import proofs.«01_k».proof.Proof.Region1

@[expose] public section

set_option maxRecDepth 16384

noncomputable section

namespace Cert.Dn4.Region1

open Cert.KernelIdeal Cert.KernelIdeal.Gen
open Idealize.ShloMosaic Idealize.ShloMosaic.TcCoe Idealize.SL.Sem

theorem recip6 (X : Fin 10 → Vec Ideal S1x64x441 .f32) (p : Fin 441) : (k1_pay468 (k1_pay467 (k1_pay466 (X 0) (X 1)) (X 2) (X 3) (X 4) (X 5) (X 6) (X 7)) (X 8) (X 9)) (ix2 0 p) = recip X p := by
  pointwise [k1_pay466, k1_pay467, k1_pay468]
  rfl

theorem chunk6_0 (X : Fin 10 → Vec Ideal S1x64x441 .f32) (c : Fin 64) (p : Fin 441) :
    k1_pay470 (k1_pay467 (k1_pay466 (X 0) (X 1)) (X 2) (X 3) (X 4) (X 5) (X 6) (X 7)) (X 8) (X 9) (X 0) (ix3 0 c p) = X 0 (ix3 0 c p) * (k1_pay468 (k1_pay467 (k1_pay466 (X 0) (X 1)) (X 2) (X 3) (X 4) (X 5) (X 6) (X 7)) (X 8) (X 9)) (ix2 0 p) := by
  pointwise [k1_pay469, k1_pay470]

theorem chunk6_1 (X : Fin 10 → Vec Ideal S1x64x441 .f32) (c : Fin 64) (p : Fin 441) :
    k1_pay477 (k1_pay468 (k1_pay467 (k1_pay466 (X 0) (X 1)) (X 2) (X 3) (X 4) (X 5) (X 6) (X 7)) (X 8) (X 9)) (X 1) (ix3 0 c p) = X 1 (ix3 0 c p) * (k1_pay468 (k1_pay467 (k1_pay466 (X 0) (X 1)) (X 2) (X 3) (X 4) (X 5) (X 6) (X 7)) (X 8) (X 9)) (ix2 0 p) := by
  pointwise [k1_pay476, k1_pay477]

theorem chunk6_2 (X : Fin 10 → Vec Ideal S1x64x441 .f32) (c : Fin 64) (p : Fin 441) :
    k1_pay484 (k1_pay468 (k1_pay467 (k1_pay466 (X 0) (X 1)) (X 2) (X 3) (X 4) (X 5) (X 6) (X 7)) (X 8) (X 9)) (X 2) (ix3 0 c p) = X 2 (ix3 0 c p) * (k1_pay468 (k1_pay467 (k1_pay466 (X 0) (X 1)) (X 2) (X 3) (X 4) (X 5) (X 6) (X 7)) (X 8) (X 9)) (ix2 0 p) := by
  pointwise [k1_pay483, k1_pay484]

theorem chunk6_3 (X : Fin 10 → Vec Ideal S1x64x441 .f32) (c : Fin 64) (p : Fin 441) :
    k1_pay492 (k1_pay468 (k1_pay467 (k1_pay466 (X 0) (X 1)) (X 2) (X 3) (X 4) (X 5) (X 6) (X 7)) (X 8) (X 9)) (X 3) (ix3 0 c p) = X 3 (ix3 0 c p) * (k1_pay468 (k1_pay467 (k1_pay466 (X 0) (X 1)) (X 2) (X 3) (X 4) (X 5) (X 6) (X 7)) (X 8) (X 9)) (ix2 0 p) := by
  pointwise [k1_pay491, k1_pay492]

theorem chunk6_4 (X : Fin 10 → Vec Ideal S1x64x441 .f32) (c : Fin 64) (p : Fin 441) :
    k1_pay499 (k1_pay468 (k1_pay467 (k1_pay466 (X 0) (X 1)) (X 2) (X 3) (X 4) (X 5) (X 6) (X 7)) (X 8) (X 9)) (X 4) (ix3 0 c p) = X 4 (ix3 0 c p) * (k1_pay468 (k1_pay467 (k1_pay466 (X 0) (X 1)) (X 2) (X 3) (X 4) (X 5) (X 6) (X 7)) (X 8) (X 9)) (ix2 0 p) := by
  pointwise [k1_pay498, k1_pay499]

theorem chunk6_5 (X : Fin 10 → Vec Ideal S1x64x441 .f32) (c : Fin 64) (p : Fin 441) :
    k1_pay507 (k1_pay468 (k1_pay467 (k1_pay466 (X 0) (X 1)) (X 2) (X 3) (X 4) (X 5) (X 6) (X 7)) (X 8) (X 9)) (X 5) (ix3 0 c p) = X 5 (ix3 0 c p) * (k1_pay468 (k1_pay467 (k1_pay466 (X 0) (X 1)) (X 2) (X 3) (X 4) (X 5) (X 6) (X 7)) (X 8) (X 9)) (ix2 0 p) := by
  pointwise [k1_pay506, k1_pay507]

theorem chunk6_6 (X : Fin 10 → Vec Ideal S1x64x441 .f32) (c : Fin 64) (p : Fin 441) :
    k1_pay515 (k1_pay514 (k1_pay468 (k1_pay467 (k1_pay466 (X 0) (X 1)) (X 2) (X 3) (X 4) (X 5) (X 6) (X 7)) (X 8) (X 9)) (X 6)) (ix3 0 c p) = X 6 (ix3 0 c p) * (k1_pay468 (k1_pay467 (k1_pay466 (X 0) (X 1)) (X 2) (X 3) (X 4) (X 5) (X 6) (X 7)) (X 8) (X 9)) (ix2 0 p) := by
  pointwise [k1_pay513, k1_pay514, k1_pay515]

theorem chunk6_7 (X : Fin 10 → Vec Ideal S1x64x441 .f32) (c : Fin 64) (p : Fin 441) :
    k1_pay522 (k1_pay521 (k1_pay468 (k1_pay467 (k1_pay466 (X 0) (X 1)) (X 2) (X 3) (X 4) (X 5) (X 6) (X 7)) (X 8) (X 9)) (X 7)) (ix3 0 c p) = X 7 (ix3 0 c p) * (k1_pay468 (k1_pay467 (k1_pay466 (X 0) (X 1)) (X 2) (X 3) (X 4) (X 5) (X 6) (X 7)) (X 8) (X 9)) (ix2 0 p) := by
  pointwise [k1_pay521, k1_pay522]

theorem chunk6_8 (X : Fin 10 → Vec Ideal S1x64x441 .f32) (c : Fin 64) (p : Fin 441) :
    k1_pay529 (k1_pay468 (k1_pay467 (k1_pay466 (X 0) (X 1)) (X 2) (X 3) (X 4) (X 5) (X 6) (X 7)) (X 8) (X 9)) (X 8) (ix3 0 c p) = X 8 (ix3 0 c p) * (k1_pay468 (k1_pay467 (k1_pay466 (X 0) (X 1)) (X 2) (X 3) (X 4) (X 5) (X 6) (X 7)) (X 8) (X 9)) (ix2 0 p) := by
  pointwise [k1_pay528, k1_pay529]

theorem chunk6_9 (X : Fin 10 → Vec Ideal S1x64x441 .f32) (c : Fin 64) (p : Fin 441) :
    k1_pay537 (k1_pay468 (k1_pay467 (k1_pay466 (X 0) (X 1)) (X 2) (X 3) (X 4) (X 5) (X 6) (X 7)) (X 8) (X 9)) (X 9) (ix3 0 c p) = X 9 (ix3 0 c p) * (k1_pay468 (k1_pay467 (k1_pay466 (X 0) (X 1)) (X 2) (X 3) (X 4) (X 5) (X 6) (X 7)) (X 8) (X 9)) (ix2 0 p) := by
  pointwise [k1_pay536, k1_pay537]

theorem row6 (X : Fin 10 → Vec Ideal S1x64x441 .f32) (M : Fin 5 → Fin 10 → Vec Ideal S1x64x441 .f32) (p : Fin 441) :
    k1_pay542 (k1_pay535 (k1_pay527 (k1_pay520 (k1_pay512 (k1_pay505 (k1_pay497 (k1_pay490 (k1_pay482 (k1_pay475 (k1_pay469 (k1_pay467 (k1_pay466 (X 0) (X 1)) (X 2) (X 3) (X 4) (X 5) (X 6) (X 7)) (X 8) (X 9) (X 0)) (M 4 0)) (k1_pay476 (k1_pay468 (k1_pay467 (k1_pay466 (X 0) (X 1)) (X 2) (X 3) (X 4) (X 5) (X 6) (X 7)) (X 8) (X 9)) (X 1)) (M 4 1)) (k1_pay483 (k1_pay468 (k1_pay467 (k1_pay466 (X 0) (X 1)) (X 2) (X 3) (X 4) (X 5) (X 6) (X 7)) (X 8) (X 9)) (X 2)) (M 4 2)) (k1_pay491 (k1_pay468 (k1_pay467 (k1_pay466 (X 0) (X 1)) (X 2) (X 3) (X 4) (X 5) (X 6) (X 7)) (X 8) (X 9)) (X 3)) (M 4 3)) (k1_pay498 (k1_pay468 (k1_pay467 (k1_pay466 (X 0) (X 1)) (X 2) (X 3) (X 4) (X 5) (X 6) (X 7)) (X 8) (X 9)) (X 4)) (M 4 4)) (k1_pay506 (k1_pay468 (k1_pay467 (k1_pay466 (X 0) (X 1)) (X 2) (X 3) (X 4) (X 5) (X 6) (X 7)) (X 8) (X 9)) (X 5)) (M 4 5)) (k1_pay513 (k1_pay468 (k1_pay467 (k1_pay466 (X 0) (X 1)) (X 2) (X 3) (X 4) (X 5) (X 6) (X 7)) (X 8) (X 9)) (X 6)) (M 4 6)) (k1_pay521 (k1_pay468 (k1_pay467 (k1_pay466 (X 0) (X 1)) (X 2) (X 3) (X 4) (X 5) (X 6) (X 7)) (X 8) (X 9)) (X 7)) (M 4 7)) (k1_pay534 (k1_pay468 (k1_pay467 (k1_pay466 (X 0) (X 1)) (X 2) (X 3) (X 4) (X 5) (X 6) (X 7)) (X 8) (X 9)) (X 8) (M 4 8))) (k1_pay536 (k1_pay468 (k1_pay467 (k1_pay466 (X 0) (X 1)) (X 2) (X 3) (X 4) (X 5) (X 6) (X 7)) (X 8) (X 9)) (X 9)) (k1_pay538 (k1_pay468 (k1_pay467 (k1_pay466 (X 0) (X 1)) (X 2) (X 3) (X 4) (X 5) (X 6) (X 7)) (X 8) (X 9)) (k1_pay530 (k1_pay468 (k1_pay467 (k1_pay466 (X 0) (X 1)) (X 2) (X 3) (X 4) (X 5) (X 6) (X 7)) (X 8) (X 9)) (k1_pay523 (k1_pay516 (k1_pay508 (k1_pay501 (k1_pay493 (k1_pay468 (k1_pay467 (k1_pay466 (X 0) (X 1)) (X 2) (X 3) (X 4) (X 5) (X 6) (X 7)) (X 8) (X 9)) (k1_pay485 (k1_pay468 (k1_pay467 (k1_pay466 (X 0) (X 1)) (X 2) (X 3) (X 4) (X 5) (X 6) (X 7)) (X 8) (X 9)) (k1_pay478 (k1_pay468 (k1_pay467 (k1_pay466 (X 0) (X 1)) (X 2) (X 3) (X 4) (X 5) (X 6) (X 7)) (X 8) (X 9)) (k1_pay471 (k1_pay467 (k1_pay466 (X 0) (X 1)) (X 2) (X 3) (X 4) (X 5) (X 6) (X 7)) (X 8) (X 9) (X 0) (M 0 0)) (X 1) (M 0 1)) (X 2) (M 0 2)) (X 3) (M 0 3)) (k1_pay500 (k1_pay468 (k1_pay467 (k1_pay466 (X 0) (X 1)) (X 2) (X 3) (X 4) (X 5) (X 6) (X 7)) (X 8) (X 9)) (X 4) (M 0 4))) (k1_pay506 (k1_pay468 (k1_pay467 (k1_pay466 (X 0) (X 1)) (X 2) (X 3) (X 4) (X 5) (X 6) (X 7)) (X 8) (X 9)) (X 5)) (M 0 5)) (k1_pay513 (k1_pay468 (k1_pay467 (k1_pay466 (X 0) (X 1)) (X 2) (X 3) (X 4) (X 5) (X 6) (X 7)) (X 8) (X 9)) (X 6)) (M 0 6)) (k1_pay521 (k1_pay468 (k1_pay467 (k1_pay466 (X 0) (X 1)) (X 2) (X 3) (X 4) (X 5) (X 6) (X 7)) (X 8) (X 9)) (X 7)) (M 0 7)) (X 8) (M 0 8)) (X 9) (M 0 9)) (k1_pay539 (k1_pay468 (k1_pay467 (k1_pay466 (X 0) (X 1)) (X 2) (X 3) (X 4) (X 5) (X 6) (X 7)) (X 8) (X 9)) (k1_pay531 (k1_pay468 (k1_pay467 (k1_pay466 (X 0) (X 1)) (X 2) (X 3) (X 4) (X 5) (X 6) (X 7)) (X 8) (X 9)) (k1_pay524 (k1_pay517 (k1_pay509 (k1_pay502 (k1_pay494 (k1_pay487 (k1_pay479 (k1_pay468 (k1_pay467 (k1_pay466 (X 0) (X 1)) (X 2) (X 3) (X 4) (X 5) (X 6) (X 7)) (X 8) (X 9)) (k1_pay472 (k1_pay467 (k1_pay466 (X 0) (X 1)) (X 2) (X 3) (X 4) (X 5) (X 6) (X 7)) (X 8) (X 9) (X 0) (M 1 0)) (X 1) (M 1 1)) (k1_pay486 (k1_pay468 (k1_pay467 (k1_pay466 (X 0) (X 1)) (X 2) (X 3) (X 4) (X 5) (X 6) (X 7)) (X 8) (X 9)) (X 2) (M 1 2))) (k1_pay491 (k1_pay468 (k1_pay467 (k1_pay466 (X 0) (X 1)) (X 2) (X 3) (X 4) (X 5) (X 6) (X 7)) (X 8) (X 9)) (X 3)) (M 1 3)) (k1_pay498 (k1_pay468 (k1_pay467 (k1_pay466 (X 0) (X 1)) (X 2) (X 3) (X 4) (X 5) (X 6) (X 7)) (X 8) (X 9)) (X 4)) (M 1 4)) (k1_pay506 (k1_pay468 (k1_pay467 (k1_pay466 (X 0) (X 1)) (X 2) (X 3) (X 4) (X 5) (X 6) (X 7)) (X 8) (X 9)) (X 5)) (M 1 5)) (k1_pay513 (k1_pay468 (k1_pay467 (k1_pay466 (X 0) (X 1)) (X 2) (X 3) (X 4) (X 5) (X 6) (X 7)) (X 8) (X 9)) (X 6)) (M 1 6)) (k1_pay521 (k1_pay468 (k1_pay467 (k1_pay466 (X 0) (X 1)) (X 2) (X 3) (X 4) (X 5) (X 6) (X 7)) (X 8) (X 9)) (X 7)) (M 1 7)) (X 8) (M 1 8)) (X 9) (M 1 9)) (k1_pay540 (k1_pay468 (k1_pay467 (k1_pay466 (X 0) (X 1)) (X 2) (X 3) (X 4) (X 5) (X 6) (X 7)) (X 8) (X 9)) (k1_pay532 (k1_pay468 (k1_pay467 (k1_pay466 (X 0) (X 1)) (X 2) (X 3) (X 4) (X 5) (X 6) (X 7)) (X 8) (X 9)) (k1_pay525 (k1_pay518 (k1_pay510 (k1_pay503 (k1_pay495 (k1_pay488 (k1_pay480 (k1_pay473 (k1_pay469 (k1_pay467 (k1_pay466 (X 0) (X 1)) (X 2) (X 3) (X 4) (X 5) (X 6) (X 7)) (X 8) (X 9) (X 0)) (M 2 0)) (k1_pay476 (k1_pay468 (k1_pay467 (k1_pay466 (X 0) (X 1)) (X 2) (X 3) (X 4) (X 5) (X 6) (X 7)) (X 8) (X 9)) (X 1)) (M 2 1)) (k1_pay483 (k1_pay468 (k1_pay467 (k1_pay466 (X 0) (X 1)) (X 2) (X 3) (X 4) (X 5) (X 6) (X 7)) (X 8) (X 9)) (X 2)) (M 2 2)) (k1_pay491 (k1_pay468 (k1_pay467 (k1_pay466 (X 0) (X 1)) (X 2) (X 3) (X 4) (X 5) (X 6) (X 7)) (X 8) (X 9)) (X 3)) (M 2 3)) (k1_pay498 (k1_pay468 (k1_pay467 (k1_pay466 (X 0) (X 1)) (X 2) (X 3) (X 4) (X 5) (X 6) (X 7)) (X 8) (X 9)) (X 4)) (M 2 4)) (k1_pay506 (k1_pay468 (k1_pay467 (k1_pay466 (X 0) (X 1)) (X 2) (X 3) (X 4) (X 5) (X 6) (X 7)) (X 8) (X 9)) (X 5)) (M 2 5)) (k1_pay513 (k1_pay468 (k1_pay467 (k1_pay466 (X 0) (X 1)) (X 2) (X 3) (X 4) (X 5) (X 6) (X 7)) (X 8) (X 9)) (X 6)) (M 2 6)) (k1_pay521 (k1_pay468 (k1_pay467 (k1_pay466 (X 0) (X 1)) (X 2) (X 3) (X 4) (X 5) (X 6) (X 7)) (X 8) (X 9)) (X 7)) (M 2 7)) (X 8) (M 2 8)) (X 9) (M 2 9)) (k1_pay541 (k1_pay468 (k1_pay467 (k1_pay466 (X 0) (X 1)) (X 2) (X 3) (X 4) (X 5) (X 6) (X 7)) (X 8) (X 9)) (k1_pay533 (k1_pay468 (k1_pay467 (k1_pay466 (X 0) (X 1)) (X 2) (X 3) (X 4) (X 5) (X 6) (X 7)) (X 8) (X 9)) (k1_pay526 (k1_pay519 (k1_pay511 (k1_pay504 (k1_pay496 (k1_pay489 (k1_pay481 (k1_pay474 (k1_pay469 (k1_pay467 (k1_pay466 (X 0) (X 1)) (X 2) (X 3) (X 4) (X 5) (X 6) (X 7)) (X 8) (X 9) (X 0)) (M 3 0)) (k1_pay476 (k1_pay468 (k1_pay467 (k1_pay466 (X 0) (X 1)) (X 2) (X 3) (X 4) (X 5) (X 6) (X 7)) (X 8) (X 9)) (X 1)) (M 3 1)) (k1_pay483 (k1_pay468 (k1_pay467 (k1_pay466 (X 0) (X 1)) (X 2) (X 3) (X 4) (X 5) (X 6) (X 7)) (X 8) (X 9)) (X 2)) (M 3 2)) (k1_pay491 (k1_pay468 (k1_pay467 (k1_pay466 (X 0) (X 1)) (X 2) (X 3) (X 4) (X 5) (X 6) (X 7)) (X 8) (X 9)) (X 3)) (M 3 3)) (k1_pay498 (k1_pay468 (k1_pay467 (k1_pay466 (X 0) (X 1)) (X 2) (X 3) (X 4) (X 5) (X 6) (X 7)) (X 8) (X 9)) (X 4)) (M 3 4)) (k1_pay506 (k1_pay468 (k1_pay467 (k1_pay466 (X 0) (X 1)) (X 2) (X 3) (X 4) (X 5) (X 6) (X 7)) (X 8) (X 9)) (X 5)) (M 3 5)) (k1_pay513 (k1_pay468 (k1_pay467 (k1_pay466 (X 0) (X 1)) (X 2) (X 3) (X 4) (X 5) (X 6) (X 7)) (X 8) (X 9)) (X 6)) (M 3 6)) (k1_pay521 (k1_pay468 (k1_pay467 (k1_pay466 (X 0) (X 1)) (X 2) (X 3) (X 4) (X 5) (X 6) (X 7)) (X 8) (X 9)) (X 7)) (M 3 7)) (X 8) (M 3 8)) (X 9) (M 3 9)) (M 4 9) (ix3 0 0 p) = agg (sims X (k1_pay468 (k1_pay467 (k1_pay466 (X 0) (X 1)) (X 2) (X 3) (X 4) (X 5) (X 6) (X 7)) (X 8) (X 9)) M) p := by
  pointwise [k1_pay469, k1_pay471, k1_pay472, k1_pay473, k1_pay474, k1_pay475, k1_pay476, k1_pay478, k1_pay479, k1_pay480, k1_pay481, k1_pay482, k1_pay483, k1_pay485, k1_pay486, k1_pay487, k1_pay488, k1_pay489, k1_pay490, k1_pay491, k1_pay493, k1_pay494, k1_pay495, k1_pay496, k1_pay497, k1_pay498, k1_pay500, k1_pay501, k1_pay502, k1_pay503, k1_pay504, k1_pay505, k1_pay506, k1_pay508, k1_pay509, k1_pay510, k1_pay511, k1_pay512, k1_pay513, k1_pay516, k1_pay517, k1_pay518, k1_pay519, k1_pay520, k1_pay521, k1_pay523, k1_pay524, k1_pay525, k1_pay526, k1_pay527, k1_pay528, k1_pay530, k1_pay531, k1_pay532, k1_pay533, k1_pay534, k1_pay535, k1_pay536, k1_pay538, k1_pay539, k1_pay540, k1_pay541, k1_pay542]
  generalize (k1_pay468 (k1_pay467 (k1_pay466 (X 0) (X 1)) (X 2) (X 3) (X 4) (X 5) (X 6) (X 7)) (X 8) (X 9)) = V
  have L := ladder X V M
  simp only [sims] at L
  simp only [L, bits_neg_inf, agg, softmax, rowMax, sims]
  rfl

theorem recip7 (X : Fin 10 → Vec Ideal S1x64x441 .f32) (p : Fin 441) : (k1_pay547 (k1_pay545 (k1_pay543 (X 0) (X 1)) (k1_pay544 (X 2)) (X 3) (X 4) (X 5) (X 6) (X 7)) (k1_pay546 (X 8)) (X 9)) (ix2 0 p) = recip X p := by
  pointwise [k1_pay543, k1_pay544, k1_pay545, k1_pay546, k1_pay547]
  rfl

theorem chunk7_0 (X : Fin 10 → Vec Ideal S1x64x441 .f32) (c : Fin 64) (p : Fin 441) :
    k1_pay549 (k1_pay545 (k1_pay543 (X 0) (X 1)) (k1_pay544 (X 2)) (X 3) (X 4) (X 5) (X 6) (X 7)) (k1_pay546 (X 8)) (X 9) (X 0) (ix3 0 c p) = X 0 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay548, k1_pay549]

theorem chunk7_1 (X : Fin 10 → Vec Ideal S1x64x441 .f32) (c : Fin 64) (p : Fin 441) :
    k1_pay557 (k1_pay547 (k1_pay545 (k1_pay543 (X 0) (X 1)) (k1_pay544 (X 2)) (X 3) (X 4) (X 5) (X 6) (X 7)) (k1_pay546 (X 8)) (X 9)) (X 1) (ix3 0 c p) = X 1 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay556, k1_pay557]

theorem chunk7_2 (X : Fin 10 → Vec Ideal S1x64x441 .f32) (c : Fin 64) (p : Fin 441) :
    k1_pay565 (k1_pay547 (k1_pay545 (k1_pay543 (X 0) (X 1)) (k1_pay544 (X 2)) (X 3) (X 4) (X 5) (X 6) (X 7)) (k1_pay546 (X 8)) (X 9)) (X 2) (ix3 0 c p) = X 2 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay564, k1_pay565]

theorem chunk7_3 (X : Fin 10 → Vec Ideal S1x64x441 .f32) (c : Fin 64) (p : Fin 441) :
    k1_pay572 (k1_pay547 (k1_pay545 (k1_pay543 (X 0) (X 1)) (k1_pay544 (X 2)) (X 3) (X 4) (X 5) (X 6) (X 7)) (k1_pay546 (X 8)) (X 9)) (X 3) (ix3 0 c p) = X 3 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay571, k1_pay572]

theorem chunk7_4 (X : Fin 10 → Vec Ideal S1x64x441 .f32) (c : Fin 64) (p : Fin 441) :
    k1_pay580 (k1_pay547 (k1_pay545 (k1_pay543 (X 0) (X 1)) (k1_pay544 (X 2)) (X 3) (X 4) (X 5) (X 6) (X 7)) (k1_pay546 (X 8)) (X 9)) (X 4) (ix3 0 c p) = X 4 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay579, k1_pay580]

theorem chunk7_5 (X : Fin 10 → Vec Ideal S1x64x441 .f32) (c : Fin 64) (p : Fin 441) :
    k1_pay587 (k1_pay547 (k1_pay545 (k1_pay543 (X 0) (X 1)) (k1_pay544 (X 2)) (X 3) (X 4) (X 5) (X 6) (X 7)) (k1_pay546 (X 8)) (X 9)) (X 5) (ix3 0 c p) = X 5 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay586, k1_pay587]

theorem chunk7_6 (X : Fin 10 → Vec Ideal S1x64x441 .f32) (c : Fin 64) (p : Fin 441) :
    k1_pay595 (k1_pay547 (k1_pay545 (k1_pay543 (X 0) (X 1)) (k1_pay544 (X 2)) (X 3) (X 4) (X 5) (X 6) (X 7)) (k1_pay546 (X 8)) (X 9)) (X 6) (ix3 0 c p) = X 6 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay594, k1_pay595]

theorem chunk7_7 (X : Fin 10 → Vec Ideal S1x64x441 .f32) (c : Fin 64) (p : Fin 441) :
    k1_pay603 (k1_pay602 (k1_pay547 (k1_pay545 (k1_pay543 (X 0) (X 1)) (k1_pay544 (X 2)) (X 3) (X 4) (X 5) (X 6) (X 7)) (k1_pay546 (X 8)) (X 9)) (X 7)) (ix3 0 c p) = X 7 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay601, k1_pay602, k1_pay603]

theorem chunk7_8 (X : Fin 10 → Vec Ideal S1x64x441 .f32) (c : Fin 64) (p : Fin 441) :
    k1_pay612 (k1_pay609 (X 8)) (k1_pay610 (k1_pay547 (k1_pay545 (k1_pay543 (X 0) (X 1)) (k1_pay544 (X 2)) (X 3) (X 4) (X 5) (X 6) (X 7)) (k1_pay546 (X 8)) (X 9))) (ix3 0 c p) = X 8 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay609, k1_pay610, k1_pay611, k1_pay612]

theorem chunk7_9 (X : Fin 10 → Vec Ideal S1x64x441 .f32) (c : Fin 64) (p : Fin 441) :
    k1_pay619 (k1_pay547 (k1_pay545 (k1_pay543 (X 0) (X 1)) (k1_pay544 (X 2)) (X 3) (X 4) (X 5) (X 6) (X 7)) (k1_pay546 (X 8)) (X 9)) (X 9) (ix3 0 c p) = X 9 (ix3 0 c p) * (k1_pay547 (k1_pay545 (k1_pay543 (X 0) (X 1)) (k1_pay544 (X 2)) (X 3) (X 4) (X 5) (X 6) (X 7)) (k1_pay546 (X 8)) (X 9)) (ix2 0 p) := by
  pointwise [k1_pay618, k1_pay619]

theorem row7 (X : Fin 10 → Vec Ideal S1x64x441 .f32) (M : Fin 5 → Fin 10 → Vec Ideal S1x64x441 .f32) (p : Fin 441) :
    k1_pay1 (k1_pay625 (k1_pay617 (k1_pay608 (k1_pay600 (k1_pay593 (k1_pay585 (k1_pay578 (k1_pay570 (k1_pay563 (k1_pay555 (k1_pay548 (k1_pay545 (k1_pay543 (X 0) (X 1)) (k1_pay544 (X 2)) (X 3) (X 4) (X 5) (X 6) (X 7)) (k1_pay546 (X 8)) (X 9) (X 0)) (M 4 0)) (k1_pay556 (k1_pay547 (k1_pay545 (k1_pay543 (X 0) (X 1)) (k1_pay544 (X 2)) (X 3) (X 4) (X 5) (X 6) (X 7)) (k1_pay546 (X 8)) (X 9)) (X 1)) (M 4 1)) (k1_pay564 (k1_pay547 (k1_pay545 (k1_pay543 (X 0) (X 1)) (k1_pay544 (X 2)) (X 3) (X 4) (X 5) (X 6) (X 7)) (k1_pay546 (X 8)) (X 9)) (X 2)) (M 4 2)) (k1_pay571 (k1_pay547 (k1_pay545 (k1_pay543 (X 0) (X 1)) (k1_pay544 (X 2)) (X 3) (X 4) (X 5) (X 6) (X 7)) (k1_pay546 (X 8)) (X 9)) (X 3)) (M 4 3)) (k1_pay579 (k1_pay547 (k1_pay545 (k1_pay543 (X 0) (X 1)) (k1_pay544 (X 2)) (X 3) (X 4) (X 5) (X 6) (X 7)) (k1_pay546 (X 8)) (X 9)) (X 4)) (M 4 4)) (k1_pay586 (k1_pay547 (k1_pay545 (k1_pay543 (X 0) (X 1)) (k1_pay544 (X 2)) (X 3) (X 4) (X 5) (X 6) (X 7)) (k1_pay546 (X 8)) (X 9)) (X 5)) (M 4 5)) (k1_pay594 (k1_pay547 (k1_pay545 (k1_pay543 (X 0) (X 1)) (k1_pay544 (X 2)) (X 3) (X 4) (X 5) (X 6) (X 7)) (k1_pay546 (X 8)) (X 9)) (X 6)) (M 4 6)) (k1_pay601 (k1_pay547 (k1_pay545 (k1_pay543 (X 0) (X 1)) (k1_pay544 (X 2)) (X 3) (X 4) (X 5) (X 6) (X 7)) (k1_pay546 (X 8)) (X 9)) (X 7)) (M 4 7)) (k1_pay609 (X 8)) (k1_pay610 (k1_pay547 (k1_pay545 (k1_pay543 (X 0) (X 1)) (k1_pay544 (X 2)) (X 3) (X 4) (X 5) (X 6) (X 7)) (k1_pay546 (X 8)) (X 9))) (M 4 8)) (k1_pay620 (k1_pay547 (k1_pay545 (k1_pay543 (X 0) (X 1)) (k1_pay544 (X 2)) (X 3) (X 4) (X 5) (X 6) (X 7)) (k1_pay546 (X 8)) (X 9)) (k1_pay613 (k1_pay604 (k1_pay596 (k1_pay589 (k1_pay581 (k1_pay547 (k1_pay545 (k1_pay543 (X 0) (X 1)) (k1_pay544 (X 2)) (X 3) (X 4) (X 5) (X 6) (X 7)) (k1_pay546 (X 8)) (X 9)) (k1_pay573 (k1_pay547 (k1_pay545 (k1_pay543 (X 0) (X 1)) (k1_pay544 (X 2)) (X 3) (X 4) (X 5) (X 6) (X 7)) (k1_pay546 (X 8)) (X 9)) (k1_pay566 (k1_pay547 (k1_pay545 (k1_pay543 (X 0) (X 1)) (k1_pay544 (X 2)) (X 3) (X 4) (X 5) (X 6) (X 7)) (k1_pay546 (X 8)) (X 9)) (k1_pay558 (k1_pay547 (k1_pay545 (k1_pay543 (X 0) (X 1)) (k1_pay544 (X 2)) (X 3) (X 4) (X 5) (X 6) (X 7)) (k1_pay546 (X 8)) (X 9)) (k1_pay550 (k1_pay545 (k1_pay543 (X 0) (X 1)) (k1_pay544 (X 2)) (X 3) (X 4) (X 5) (X 6) (X 7)) (k1_pay546 (X 8)) (X 9) (X 0) (M 0 0)) (X 1) (M 0 1)) (X 2) (M 0 2)) (X 3) (M 0 3)) (X 4) (M 0 4)) (k1_pay588 (k1_pay547 (k1_pay545 (k1_pay543 (X 0) (X 1)) (k1_pay544 (X 2)) (X 3) (X 4) (X 5) (X 6) (X 7)) (k1_pay546 (X 8)) (X 9)) (X 5) (M 0 5))) (k1_pay594 (k1_pay547 (k1_pay545 (k1_pay543 (X 0) (X 1)) (k1_pay544 (X 2)) (X 3) (X 4) (X 5) (X 6) (X 7)) (k1_pay546 (X 8)) (X 9)) (X 6)) (M 0 6)) (k1_pay601 (k1_pay547 (k1_pay545 (k1_pay543 (X 0) (X 1)) (k1_pay544 (X 2)) (X 3) (X 4) (X 5) (X 6) (X 7)) (k1_pay546 (X 8)) (X 9)) (X 7)) (M 0 7)) (k1_pay609 (X 8)) (k1_pay610 (k1_pay547 (k1_pay545 (k1_pay543 (X 0) (X 1)) (k1_pay544 (X 2)) (X 3) (X 4) (X 5) (X 6) (X 7)) (k1_pay546 (X 8)) (X 9))) (M 0 8)) (X 9) (M 0 9)) (k1_pay621 (k1_pay547 (k1_pay545 (k1_pay543 (X 0) (X 1)) (k1_pay544 (X 2)) (X 3) (X 4) (X 5) (X 6) (X 7)) (k1_pay546 (X 8)) (X 9)) (k1_pay614 (k1_pay605 (k1_pay597 (k1_pay590 (k1_pay582 (k1_pay575 (k1_pay567 (k1_pay547 (k1_pay545 (k1_pay543 (X 0) (X 1)) (k1_pay544 (X 2)) (X 3) (X 4) (X 5) (X 6) (X 7)) (k1_pay546 (X 8)) (X 9)) (k1_pay559 (k1_pay547 (k1_pay545 (k1_pay543 (X 0) (X 1)) (k1_pay544 (X 2)) (X 3) (X 4) (X 5) (X 6) (X 7)) (k1_pay546 (X 8)) (X 9)) (k1_pay551 (k1_pay545 (k1_pay543 (X 0) (X 1)) (k1_pay544 (X 2)) (X 3) (X 4) (X 5) (X 6) (X 7)) (k1_pay546 (X 8)) (X 9) (X 0) (M 1 0)) (X 1) (M 1 1)) (X 2) (M 1 2)) (k1_pay574 (k1_pay547 (k1_pay545 (k1_pay543 (X 0) (X 1)) (k1_pay544 (X 2)) (X 3) (X 4) (X 5) (X 6) (X 7)) (k1_pay546 (X 8)) (X 9)) (X 3) (M 1 3))) (k1_pay579 (k1_pay547 (k1_pay545 (k1_pay543 (X 0) (X 1)) (k1_pay544 (X 2)) (X 3) (X 4) (X 5) (X 6) (X 7)) (k1_pay546 (X 8)) (X 9)) (X 4)) (M 1 4)) (k1_pay586 (k1_pay547 (k1_pay545 (k1_pay543 (X 0) (X 1)) (k1_pay544 (X 2)) (X 3) (X 4) (X 5) (X 6) (X 7)) (k1_pay546 (X 8)) (X 9)) (X 5)) (M 1 5)) (k1_pay594 (k1_pay547 (k1_pay545 (k1_pay543 (X 0) (X 1)) (k1_pay544 (X 2)) (X 3) (X 4) (X 5) (X 6) (X 7)) (k1_pay546 (X 8)) (X 9)) (X 6)) (M 1 6)) (k1_pay601 (k1_pay547 (k1_pay545 (k1_pay543 (X 0) (X 1)) (k1_pay544 (X 2)) (X 3) (X 4) (X 5) (X 6) (X 7)) (k1_pay546 (X 8)) (X 9)) (X 7)) (M 1 7)) (k1_pay609 (X 8)) (k1_pay610 (k1_pay547 (k1_pay545 (k1_pay543 (X 0) (X 1)) (k1_pay544 (X 2)) (X 3) (X 4) (X 5) (X 6) (X 7)) (k1_pay546 (X 8)) (X 9))) (M 1 8)) (X 9) (M 1 9)) (k1_pay622 (k1_pay547 (k1_pay545 (k1_pay543 (X 0) (X 1)) (k1_pay544 (X 2)) (X 3) (X 4) (X 5) (X 6) (X 7)) (k1_pay546 (X 8)) (X 9)) (k1_pay615 (k1_pay606 (k1_pay598 (k1_pay591 (k1_pay583 (k1_pay576 (k1_pay568 (k1_pay561 (k1_pay553 (k1_pay552 (k1_pay545 (k1_pay543 (X 0) (X 1)) (k1_pay544 (X 2)) (X 3) (X 4) (X 5) (X 6) (X 7)) (k1_pay546 (X 8)) (X 9) (X 0) (M 2 0))) (k1_pay560 (k1_pay547 (k1_pay545 (k1_pay543 (X 0) (X 1)) (k1_pay544 (X 2)) (X 3) (X 4) (X 5) (X 6) (X 7)) (k1_pay546 (X 8)) (X 9)) (X 1) (M 2 1))) (k1_pay564 (k1_pay547 (k1_pay545 (k1_pay543 (X 0) (X 1)) (k1_pay544 (X 2)) (X 3) (X 4) (X 5) (X 6) (X 7)) (k1_pay546 (X 8)) (X 9)) (X 2)) (M 2 2)) (k1_pay571 (k1_pay547 (k1_pay545 (k1_pay543 (X 0) (X 1)) (k1_pay544 (X 2)) (X 3) (X 4) (X 5) (X 6) (X 7)) (k1_pay546 (X 8)) (X 9)) (X 3)) (M 2 3)) (k1_pay579 (k1_pay547 (k1_pay545 (k1_pay543 (X 0) (X 1)) (k1_pay544 (X 2)) (X 3) (X 4) (X 5) (X 6) (X 7)) (k1_pay546 (X 8)) (X 9)) (X 4)) (M 2 4)) (k1_pay586 (k1_pay547 (k1_pay545 (k1_pay543 (X 0) (X 1)) (k1_pay544 (X 2)) (X 3) (X 4) (X 5) (X 6) (X 7)) (k1_pay546 (X 8)) (X 9)) (X 5)) (M 2 5)) (k1_pay594 (k1_pay547 (k1_pay545 (k1_pay543 (X 0) (X 1)) (k1_pay544 (X 2)) (X 3) (X 4) (X 5) (X 6) (X 7)) (k1_pay546 (X 8)) (X 9)) (X 6)) (M 2 6)) (k1_pay601 (k1_pay547 (k1_pay545 (k1_pay543 (X 0) (X 1)) (k1_pay544 (X 2)) (X 3) (X 4) (X 5) (X 6) (X 7)) (k1_pay546 (X 8)) (X 9)) (X 7)) (M 2 7)) (k1_pay609 (X 8)) (k1_pay610 (k1_pay547 (k1_pay545 (k1_pay543 (X 0) (X 1)) (k1_pay544 (X 2)) (X 3) (X 4) (X 5) (X 6) (X 7)) (k1_pay546 (X 8)) (X 9))) (M 2 8)) (X 9) (M 2 9)) (k1_pay623 (k1_pay547 (k1_pay545 (k1_pay543 (X 0) (X 1)) (k1_pay544 (X 2)) (X 3) (X 4) (X 5) (X 6) (X 7)) (k1_pay546 (X 8)) (X 9)) (k1_pay616 (k1_pay607 (k1_pay599 (k1_pay592 (k1_pay584 (k1_pay577 (k1_pay569 (k1_pay562 (k1_pay554 (k1_pay548 (k1_pay545 (k1_pay543 (X 0) (X 1)) (k1_pay544 (X 2)) (X 3) (X 4) (X 5) (X 6) (X 7)) (k1_pay546 (X 8)) (X 9) (X 0)) (M 3 0)) (k1_pay556 (k1_pay547 (k1_pay545 (k1_pay543 (X 0) (X 1)) (k1_pay544 (X 2)) (X 3) (X 4) (X 5) (X 6) (X 7)) (k1_pay546 (X 8)) (X 9)) (X 1)) (M 3 1)) (k1_pay564 (k1_pay547 (k1_pay545 (k1_pay543 (X 0) (X 1)) (k1_pay544 (X 2)) (X 3) (X 4) (X 5) (X 6) (X 7)) (k1_pay546 (X 8)) (X 9)) (X 2)) (M 3 2)) (k1_pay571 (k1_pay547 (k1_pay545 (k1_pay543 (X 0) (X 1)) (k1_pay544 (X 2)) (X 3) (X 4) (X 5) (X 6) (X 7)) (k1_pay546 (X 8)) (X 9)) (X 3)) (M 3 3)) (k1_pay579 (k1_pay547 (k1_pay545 (k1_pay543 (X 0) (X 1)) (k1_pay544 (X 2)) (X 3) (X 4) (X 5) (X 6) (X 7)) (k1_pay546 (X 8)) (X 9)) (X 4)) (M 3 4)) (k1_pay586 (k1_pay547 (k1_pay545 (k1_pay543 (X 0) (X 1)) (k1_pay544 (X 2)) (X 3) (X 4) (X 5) (X 6) (X 7)) (k1_pay546 (X 8)) (X 9)) (X 5)) (M 3 5)) (k1_pay594 (k1_pay547 (k1_pay545 (k1_pay543 (X 0) (X 1)) (k1_pay544 (X 2)) (X 3) (X 4) (X 5) (X 6) (X 7)) (k1_pay546 (X 8)) (X 9)) (X 6)) (M 3 6)) (k1_pay601 (k1_pay547 (k1_pay545 (k1_pay543 (X 0) (X 1)) (k1_pay544 (X 2)) (X 3) (X 4) (X 5) (X 6) (X 7)) (k1_pay546 (X 8)) (X 9)) (X 7)) (M 3 7)) (k1_pay609 (X 8)) (k1_pay610 (k1_pay547 (k1_pay545 (k1_pay543 (X 0) (X 1)) (k1_pay544 (X 2)) (X 3) (X 4) (X 5) (X 6) (X 7)) (k1_pay546 (X 8)) (X 9))) (M 3 8)) (X 9) (M 3 9)) (k1_pay624 (k1_pay547 (k1_pay545 (k1_pay543 (X 0) (X 1)) (k1_pay544 (X 2)) (X 3) (X 4) (X 5) (X 6) (X 7)) (k1_pay546 (X 8)) (X 9)) (X 9) (M 4 9))) (ix3 0 0 p) = agg (sims X (k1_pay547 (k1_pay545 (k1_pay543 (X 0) (X 1)) (k1_pay544 (X 2)) (X 3) (X 4) (X 5) (X 6) (X 7)) (k1_pay546 (X 8)) (X 9)) M) p := by
  pointwise [k1_pay1, k1_pay548, k1_pay550, k1_pay551, k1_pay552, k1_pay553, k1_pay554, k1_pay555, k1_pay556, k1_pay558, k1_pay559, k1_pay560, k1_pay561, k1_pay562, k1_pay563, k1_pay564, k1_pay566, k1_pay567, k1_pay568, k1_pay569, k1_pay570, k1_pay571, k1_pay573, k1_pay574, k1_pay575, k1_pay576, k1_pay577, k1_pay578, k1_pay579, k1_pay581, k1_pay582, k1_pay583, k1_pay584, k1_pay585, k1_pay586, k1_pay588, k1_pay589, k1_pay590, k1_pay591, k1_pay592, k1_pay593, k1_pay594, k1_pay596, k1_pay597, k1_pay598, k1_pay599, k1_pay600, k1_pay601, k1_pay604, k1_pay605, k1_pay606, k1_pay607, k1_pay608, k1_pay609, k1_pay610, k1_pay611, k1_pay613, k1_pay614, k1_pay615, k1_pay616, k1_pay617, k1_pay618, k1_pay620, k1_pay621, k1_pay622, k1_pay623, k1_pay624, k1_pay625]
  generalize (k1_pay547 (k1_pay545 (k1_pay543 (X 0) (X 1)) (k1_pay544 (X 2)) (X 3) (X 4) (X 5) (X 6) (X 7)) (k1_pay546 (X 8)) (X 9)) = V
  have L := ladder X V M
  simp only [sims] at L
  simp only [L, bits_neg_inf, agg, softmax, rowMax, sims]
  rfl

end Cert.Dn4.Region1

end
-- ==== Proof.Region1Out.lean ====
/- What the second stage leaves in its two buffers: the scaled queries of a block of eight, and their averages. -/
module

public import proofs.«01_k».proof.Proof.Region1Rows0
public import proofs.«01_k».proof.Proof.Region1Rows1
public import proofs.«01_k».proof.Proof.Region1Rows2
public import proofs.«01_k».proof.Proof.Region1Rows3
public import Idealize.ShloMosaic.Lib.Pipeline.ValueKit

@[expose] public section

set_option maxRecDepth 16384

noncomputable section

namespace Cert.Dn4.Region1

open Cert.KernelIdeal Cert.KernelIdeal.Gen
open Idealize.ShloMosaic Idealize.ShloMosaic.TcCoe Idealize.SL.Sem

theorem inX (r : Fin 8) (t : Fin 10) (a : Fin S8x640x441.rank) :
    (![r.val, t.val * 64, 0] : Fin 3 → ℕ) a + S1x64x441.size a ≤ S8x640x441.size a := by
  have := r.isLt
  have := t.isLt
  fin_cases a <;> simp [S1x64x441, S8x640x441] <;> omega

theorem inM (w : Fin 5) (t : Fin 10) (a : Fin S5x640x441.rank) :
    (![w.val, t.val * 64, 0] : Fin 3 → ℕ) a + S1x64x441.size a ≤ S5x640x441.size a := by
  have := w.isLt
  have := t.isLt
  fin_cases a <;> simp [S1x64x441, S5x640x441] <;> omega

/-- Chunk `t` of query `r` of the block. -/
def chunkX (x0 : Vec Ideal S8x640x441 .f32) (r : Fin 8) (t : Fin 10) : Vec Ideal S1x64x441 .f32 :=
  View.ld x0 (Rect.unit (s := S8x640x441) ![r.val, t.val * 64, 0] S1x64x441.size (inX r t))

/-- Chunk `t` of support `w`. -/
def chunkM (x1 : Vec Ideal S5x640x441 .f32) (w : Fin 5) (t : Fin 10) : Vec Ideal S1x64x441 .f32 :=
  View.ld x1 (Rect.unit (s := S5x640x441) ![w.val, t.val * 64, 0] S1x64x441.size (inM w t))

theorem chunkX_at (x0 : Vec Ideal S8x640x441 .f32) (r : Fin 8) (t : Fin 10) (c : Fin 64) (p : Fin 441) :
    chunkX x0 r t (ix3 0 c p) = x0 (ix3 r (chan t c) p) := by
  refine View.ld_unit_apply_of _ _ _ _ _ _ fun a => ?_
  fin_cases a <;> simp [chan]

theorem chunkM_at (x1 : Vec Ideal S5x640x441 .f32) (w : Fin 5) (t : Fin 10) (c : Fin 64) (p : Fin 441) :
    chunkM x1 w t (ix3 0 c p) = x1 (ix3 w (chan t c) p) := by
  refine View.ld_unit_apply_of _ _ _ _ _ _ fun a => ?_
  fin_cases a <;> simp [chan]

/-- The averages of the block's eight queries. -/
theorem out2_at (x0 : Vec Ideal S8x640x441 .f32) (x1 : Vec Ideal S5x640x441 .f32)
    (hq : ∀ r p, Long fun c => x0 (ix3 r c p)) (r : Fin 8) (p : Fin 441) :
    out1_2 x0 x1 (ix3 r 0 p) = queryAgg (fun c p => x0 (ix3 r c p)) (fun w c p => x1 (ix3 w c p)) p := by
  unfold_out out1_2
  canon_tiles x h
  · obtain rfl : r = 7 := Fin.ext (by have e : r.val = 7 + (x 0).val := h0; have := x0_lt; show r.val = 7; omega)
    exact row_of _ _ (chunkX x0 7) (chunkM x1) _ (chunkX_at x0 7) (chunkM_at x1) (recip7 _) (hq 7) _ (row7 _ _) x p h2.symm
  · obtain rfl : r = 6 := Fin.ext (by have e : r.val = 6 + (x 0).val := h0; have := x0_lt; show r.val = 6; omega)
    exact row_of _ _ (chunkX x0 6) (chunkM x1) _ (chunkX_at x0 6) (chunkM_at x1) (recip6 _) (hq 6) _ (row6 _ _) x p h2.symm
  · obtain rfl : r = 5 := Fin.ext (by have e : r.val = 5 + (x 0).val := h0; have := x0_lt; show r.val = 5; omega)
    exact row_of _ _ (chunkX x0 5) (chunkM x1) _ (chunkX_at x0 5) (chunkM_at x1) (recip5 _) (hq 5) _ (row5 _ _) x p h2.symm
  · obtain rfl : r = 4 := Fin.ext (by have e : r.val = 4 + (x 0).val := h0; have := x0_lt; show r.val = 4; omega)
    exact row_of _ _ (chunkX x0 4) (chunkM x1) _ (chunkX_at x0 4) (chunkM_at x1) (recip4 _) (hq 4) _ (row4 _ _) x p h2.symm
  · obtain rfl : r = 3 := Fin.ext (by have e : r.val = 3 + (x 0).val := h0; have := x0_lt; show r.val = 3; omega)
    exact row_of _ _ (chunkX x0 3) (chunkM x1) _ (chunkX_at x0 3) (chunkM_at x1) (recip3 _) (hq 3) _ (row3 _ _) x p h2.symm
  · obtain rfl : r = 2 := Fin.ext (by have e : r.val = 2 + (x 0).val := h0; have := x0_lt; show r.val = 2; omega)
    exact row_of _ _ (chunkX x0 2) (chunkM x1) _ (chunkX_at x0 2) (chunkM_at x1) (recip2 _) (hq 2) _ (row2 _ _) x p h2.symm
  · obtain rfl : r = 1 := Fin.ext (by have e : r.val = 1 + (x 0).val := h0; have := x0_lt; show r.val = 1; omega)
    exact row_of _ _ (chunkX x0 1) (chunkM x1) _ (chunkX_at x0 1) (chunkM_at x1) (recip1 _) (hq 1) _ (row1 _ _) x p h2.symm
  · obtain rfl : r = 0 := Fin.ext (by have e : r.val = (x 0).val := h0; have := x0_lt; show r.val = 0; omega)
    exact row_of _ _ (chunkX x0 0) (chunkM x1) _ (chunkX_at x0 0) (chunkM_at x1) (recip0 _) (hq 0) _ (row0 _ _) x p h2.symm

/-- The block's eight queries, scaled. -/
theorem out3_at (x0 : Vec Ideal S8x640x441 .f32) (x1 : Vec Ideal S5x640x441 .f32)
    (hq : ∀ r p, Long fun c => x0 (ix3 r c p)) (r : Fin 8) (c : Fin 640) (p : Fin 441) :
    out1_3 x0 x1 (ix3 r c p) = unitVec (fun c => x0 (ix3 r c p)) c := by
  unfold_out out1_3
  dsimp only
  canon_tiles x h
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 9 _ (chunk7_9 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 8 _ (chunk7_8 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 7 _ (chunk7_7 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 6 _ (chunk7_6 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 5 _ (chunk7_5 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 4 _ (chunk7_4 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 3 _ (chunk7_3 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 2 _ (chunk7_2 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 1 _ (chunk7_1 _) x c p h1 h2.symm
  · obtain rfl : r = 7 := Fin.ext (by have e : r.val = 7 + (x 0).val := h0; have := x0_lt; show r.val = 7; omega)
    exact chunk_of (fun c p => x0 (ix3 7 c p)) (chunkX x0 7) _ (chunkX_at x0 7) (recip7 _) (hq 7) 0 _ (chunk7_0 _) x c p (by have e : c.val = (x 1).val := h1; show c.val = 0 * 64 + (x 1).val; omega) h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 9 _ (chunk6_9 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 8 _ (chunk6_8 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 7 _ (chunk6_7 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 6 _ (chunk6_6 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 5 _ (chunk6_5 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 4 _ (chunk6_4 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 3 _ (chunk6_3 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 2 _ (chunk6_2 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 1 _ (chunk6_1 _) x c p h1 h2.symm
  · obtain rfl : r = 6 := Fin.ext (by have e : r.val = 6 + (x 0).val := h0; have := x0_lt; show r.val = 6; omega)
    exact chunk_of (fun c p => x0 (ix3 6 c p)) (chunkX x0 6) _ (chunkX_at x0 6) (recip6 _) (hq 6) 0 _ (chunk6_0 _) x c p (by have e : c.val = (x 1).val := h1; show c.val = 0 * 64 + (x 1).val; omega) h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 9 _ (chunk5_9 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 8 _ (chunk5_8 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 7 _ (chunk5_7 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 6 _ (chunk5_6 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 5 _ (chunk5_5 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 4 _ (chunk5_4 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 3 _ (chunk5_3 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 2 _ (chunk5_2 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 1 _ (chunk5_1 _) x c p h1 h2.symm
  · obtain rfl : r = 5 := Fin.ext (by have e : r.val = 5 + (x 0).val := h0; have := x0_lt; show r.val = 5; omega)
    exact chunk_of (fun c p => x0 (ix3 5 c p)) (chunkX x0 5) _ (chunkX_at x0 5) (recip5 _) (hq 5) 0 _ (chunk5_0 _) x c p (by have e : c.val = (x 1).val := h1; show c.val = 0 * 64 + (x 1).val; omega) h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 9 _ (chunk4_9 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 8 _ (chunk4_8 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 7 _ (chunk4_7 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 6 _ (chunk4_6 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 5 _ (chunk4_5 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 4 _ (chunk4_4 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 3 _ (chunk4_3 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 2 _ (chunk4_2 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 1 _ (chunk4_1 _) x c p h1 h2.symm
  · obtain rfl : r = 4 := Fin.ext (by have e : r.val = 4 + (x 0).val := h0; have := x0_lt; show r.val = 4; omega)
    exact chunk_of (fun c p => x0 (ix3 4 c p)) (chunkX x0 4) _ (chunkX_at x0 4) (recip4 _) (hq 4) 0 _ (chunk4_0 _) x c p (by have e : c.val = (x 1).val := h1; show c.val = 0 * 64 + (x 1).val; omega) h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 9 _ (chunk3_9 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 8 _ (chunk3_8 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 7 _ (chunk3_7 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 6 _ (chunk3_6 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 5 _ (chunk3_5 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 4 _ (chunk3_4 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 3 _ (chunk3_3 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 2 _ (chunk3_2 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 1 _ (chunk3_1 _) x c p h1 h2.symm
  · obtain rfl : r = 3 := Fin.ext (by have e : r.val = 3 + (x 0).val := h0; have := x0_lt; show r.val = 3; omega)
    exact chunk_of (fun c p => x0 (ix3 3 c p)) (chunkX x0 3) _ (chunkX_at x0 3) (recip3 _) (hq 3) 0 _ (chunk3_0 _) x c p (by have e : c.val = (x 1).val := h1; show c.val = 0 * 64 + (x 1).val; omega) h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 9 _ (chunk2_9 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 8 _ (chunk2_8 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 7 _ (chunk2_7 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 6 _ (chunk2_6 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 5 _ (chunk2_5 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 4 _ (chunk2_4 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 3 _ (chunk2_3 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 2 _ (chunk2_2 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 1 _ (chunk2_1 _) x c p h1 h2.symm
  · obtain rfl : r = 2 := Fin.ext (by have e : r.val = 2 + (x 0).val := h0; have := x0_lt; show r.val = 2; omega)
    exact chunk_of (fun c p => x0 (ix3 2 c p)) (chunkX x0 2) _ (chunkX_at x0 2) (recip2 _) (hq 2) 0 _ (chunk2_0 _) x c p (by have e : c.val = (x 1).val := h1; show c.val = 0 * 64 + (x 1).val; omega) h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 9 _ (chunk1_9 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 8 _ (chunk1_8 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 7 _ (chunk1_7 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 6 _ (chunk1_6 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 5 _ (chunk1_5 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 4 _ (chunk1_4 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 3 _ (chunk1_3 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 2 _ (chunk1_2 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 1 _ (chunk1_1 _) x c p h1 h2.symm
  · obtain rfl : r = 1 := Fin.ext (by have e : r.val = 1 + (x 0).val := h0; have := x0_lt; show r.val = 1; omega)
    exact chunk_of (fun c p => x0 (ix3 1 c p)) (chunkX x0 1) _ (chunkX_at x0 1) (recip1 _) (hq 1) 0 _ (chunk1_0 _) x c p (by have e : c.val = (x 1).val := h1; show c.val = 0 * 64 + (x 1).val; omega) h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 9 _ (chunk0_9 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 8 _ (chunk0_8 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 7 _ (chunk0_7 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 6 _ (chunk0_6 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 5 _ (chunk0_5 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 4 _ (chunk0_4 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 3 _ (chunk0_3 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 2 _ (chunk0_2 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 1 _ (chunk0_1 _) x c p h1 h2.symm
  · obtain rfl : r = 0 := Fin.ext (by have e : r.val = (x 0).val := h0; have := x0_lt; show r.val = 0; omega)
    exact chunk_of (fun c p => x0 (ix3 0 c p)) (chunkX x0 0) _ (chunkX_at x0 0) (recip0 _) (hq 0) 0 _ (chunk0_0 _) x c p (by have e : c.val = (x 1).val := h1; show c.val = 0 * 64 + (x 1).val; omega) h2.symm

end Cert.Dn4.Region1

end
-- ==== Proof.Blocks.lean ====
/- What each of the kernel's four stages leaves in its arrays, block after block. -/
module

public import proofs.«01_k».proof.Proof.Region0Out
public import proofs.«01_k».proof.Proof.Region1Out
public import Idealize.ShloMosaic.Lib.Pipeline.ValueKit

@[expose] public section

set_option maxRecDepth 16384

noncomputable section

namespace Cert.Dn4.Blocks

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem idx0 : ∀ t : Fin cfg0.N, win0_0.index t = ![0, 0, 0] ∧ win0_1.index t = ![0, 0, 0] ∧ win0_2.index t = ![0, 0, 0] :=
  (by decide +kernel : ∀ t : Fin grid0.N, _)

theorem idx2 : ∀ t : Fin cfg2.N, win2_0.index t = ![0, 0, 0] :=
  (by decide +kernel : ∀ t : Fin grid2.N, _)

theorem idx1 : ∀ t : Fin cfg1.N, win1_0.index t = ![t.val, 0, 0] ∧ win1_1.index t = ![0, 0, 0]
    ∧ win1_2.index t = ![t.val, 0, 0] ∧ win1_3.index t = ![t.val, 0, 0] :=
  (by decide +kernel : ∀ t : Fin grid1.N, _)

theorem idx3 : ∀ t : Fin cfg3.N, win3_0.index t = ![t.val, 0, 0] ∧ win3_1.index t = ![0, 0, 0]
    ∧ win3_2.index t = ![t.val, 0, 0] ∧ win3_3.index t = ![0, 0] ∧ win3_4.index t = ![t.val, 0, 0] :=
  (by decide +kernel : ∀ t : Fin grid3.N, _)

/-- A query's descriptor in the block of point `t`. -/
theorem block1 (t : Fin cfg1.N) (r : Fin 8) (q : Fin 64) (hr : q.val = t.val * 8 + r.val) (ch : Fin 640) (p : Fin 441) :
    iblk1 V c 0 t (ix3 r ch p) = V c main_v0 (ix3 q ch p) := by
  blk_ext [iblk1, idx1 t]

/-- The supports are staged whole. -/
theorem support1 (t : Fin cfg1.N) (w : Fin 5) (ch : Fin 640) (p : Fin 441) :
    iblk1 V c 1 t (ix3 w ch p) = V c main_v2_0 (ix3 w ch p) := by
  blk_ext [iblk1, idx1 t]

theorem query_lt (t : Fin cfg1.N) (r : Fin 8) : t.val * 8 + r.val < 64 := by
  have h : t.val < 8 := t.isLt
  omega

theorem long1 (hq : ∀ q p, Long fun ch => V c main_v0 (ix3 (q : Fin 64) (ch : Fin 640) (p : Fin 441))) (t : Fin cfg1.N) (r : Fin 8) (p : Fin 441) :
    Long fun ch => iblk1 V c 0 t (ix3 r ch p) := by
  have := hq ⟨_, query_lt t r⟩ p
  simpa only [block1 V c t r ⟨_, query_lt t r⟩ rfl] using this

theorem eta3 {a b d : ℕ} (y : (⟨3, ![a, b, d]⟩ : Shape).Idx) : y = ix3 (y 0) (y 1) (y 2) := by
  funext k; fin_cases k <;> rfl

/-- The scaled queries after the second stage. -/
theorem scaled (X : Vec Ideal S64x640x441 .f32) (hX : V c main_v0 = X) (hq : ∀ q p, Long fun ch => X (ix3 q ch p)) :
    (dat1 V c).arrAt 3 cfg1.N = fun i : S64x640x441.Idx => unitVec (fun ch => X (ix3 (i 0) ch (i 2))) (i 1) := by
  subst hX
  refine (dat1 V c).arrAt_eq_of_covers 3 _ (by decide +kernel) fun t hf y => ?_
  blk_simp
  rw [after1_3]
  refine ((congrArg _ (eta3 (a := 8) (b := 640) (d := 441) y)).trans (Region1.out3_at _ _ (long1 V c hq t) _ _ _)).trans ?_
  have e0 : ((win1_3.blk t).view.emb y 0).val = t.val * 8 + (y 0).val := by blk_simp [idx1 t]
  have e1 : (win1_3.blk t).view.emb y 1 = y 1 := Fin.ext (by blk_simp [idx1 t])
  have e2 : (win1_3.blk t).view.emb y 2 = y 2 := Fin.ext (by blk_simp [idx1 t])
  rw [e1, e2]
  exact congrArg (unitVec · (y 1)) (funext fun ch => block1 V c t _ _ e0 ch _)

/-- The queries' averages after the second stage. -/
theorem averages (X : Vec Ideal S64x640x441 .f32) (hX : V c main_v0 = X) (hq : ∀ q p, Long fun ch => X (ix3 q ch p))
    (M : Vec Ideal S5x640x441 .f32) (hM : V c main_v2_0 = M) :
    (dat1 V c).arrAt 2 cfg1.N
      = fun i : S64x1x441.Idx => queryAgg (fun ch p => X (ix3 (i 0) ch p)) (fun w ch p => M (ix3 w ch p)) (i 2) := by
  subst hX hM
  refine (dat1 V c).arrAt_eq_of_covers 2 _ (by decide +kernel) fun t hf y => ?_
  blk_simp
  rw [after1_2]
  have e0 : ((win1_2.blk t).view.emb y 0).val = t.val * 8 + (y 0).val := by blk_simp [idx1 t]
  have e2 : (win1_2.blk t).view.emb y 2 = y 2 := Fin.ext (by blk_simp [idx1 t])
  have e : y = ix3 (y 0) 0 (y 2) := (eta3 (a := 8) (b := 1) (d := 441) y).trans (congrArg (ix3 (y 0) · (y 2)) (Subsingleton.elim (α := Fin 1) _ _))
  refine ((congrArg _ e).trans (Region1.out2_at _ _ (long1 V c hq t) _ _)).trans ?_
  rw [e2]
  refine congrArg₂ (queryAgg · · (y 2)) (funext fun ch => funext fun p => block1 V c t _ _ e0 ch _) ?_
  exact funext fun w => funext fun ch => funext fun p => support1 V c t w ch p

/-- The supports' descriptors in the only block of the first stage. -/
theorem block0 (t : Fin cfg0.N) (w : Fin 5) (ch : Fin 640) (p : Fin 441) :
    iblk0 V c 0 t (ix3 w ch p) = V c main_v1 (ix3 w ch p) := by
  blk_ext [iblk0, idx0 t]

theorem long0 (hs : ∀ w p, Long fun ch => V c main_v1 (ix3 (w : Fin 5) (ch : Fin 640) (p : Fin 441))) (t : Fin cfg0.N) (w : Fin 5) (p : Fin 441) :
    Long fun ch => iblk0 V c 0 t (ix3 w ch p) := by
  simpa only [block0 V c t] using hs w p

/-- The masked support after the first stage. -/
theorem masked (X : Vec Ideal S5x640x441 .f32) (hX : V c main_v1 = X) (hs : ∀ w p, Long fun ch => X (ix3 w ch p)) :
    (dat0 V c).arrAt 1 cfg0.N = fun i : S5x640x441.Idx => support (fun w ch p => X (ix3 w ch p)) (i 0) (i 1) (i 2) := by
  subst hX
  refine (dat0 V c).arrAt_eq_of_covers 1 _ (by decide +kernel) fun t hf y => ?_
  blk_simp
  rw [after0_1]
  refine ((congrArg _ (eta3 (a := 5) (b := 640) (d := 441) y)).trans (Region0.out1_at _ (long0 V c hs t) _ _ _)).trans ?_
  have e0 : (win0_1.blk t).view.emb y 0 = y 0 := Fin.ext (by blk_simp [idx0 t])
  have e1 : (win0_1.blk t).view.emb y 1 = y 1 := Fin.ext (by blk_simp [idx0 t])
  have e2 : (win0_1.blk t).view.emb y 2 = y 2 := Fin.ext (by blk_simp [idx0 t])
  rw [e0, e1, e2]
  exact congrArg (support · (y 0) (y 1) (y 2)) (funext fun w => funext fun ch => funext fun p => block0 V c t w ch p)

/-- The masked support in the narrower format, after the first stage. -/
theorem masked_narrow (X : Vec Ideal S5x640x441 .f32) (hX : V c main_v1 = X) (hs : ∀ w p, Long fun ch => X (ix3 w ch p)) :
    (dat0 V c).arrAt 2 cfg0.N = fun i : S5x640x441.Idx => support (fun w ch p => X (ix3 w ch p)) (i 0) (i 1) (i 2) := by
  subst hX
  refine (dat0 V c).arrAt_eq_of_covers 2 _ (by decide +kernel) fun t hf y => ?_
  blk_simp
  rw [after0_2]
  refine ((congrArg _ (eta3 (a := 5) (b := 640) (d := 441) y)).trans (Region0.out2_at _ (long0 V c hs t) _ _ _)).trans ?_
  have e0 : (win0_2.blk t).view.emb y 0 = y 0 := Fin.ext (by blk_simp [idx0 t])
  have e1 : (win0_2.blk t).view.emb y 1 = y 1 := Fin.ext (by blk_simp [idx0 t])
  have e2 : (win0_2.blk t).view.emb y 2 = y 2 := Fin.ext (by blk_simp [idx0 t])
  rw [e0, e1, e2]
  exact congrArg (support · (y 0) (y 1) (y 2)) (funext fun w => funext fun ch => funext fun p => block0 V c t w ch p)

/-- The averages are staged whole in the third stage. -/
theorem block2 (t : Fin cfg2.N) (q : Fin 64) (p : Fin 441) :
    iblk2 V c 0 t (ix3 q 0 p) = V c main_v3_0 (ix3 q 0 p) := by
  blk_ext [iblk2, idx2 t]

/-- The threshold after the third stage. -/
theorem threshold (A : Vec Ideal S64x1x441 .f32) (hA : V c main_v3_0 = A) :
    (dat2 V c).arrAt 1 cfg2.N = fun _ : S1x1.Idx =>
      thr (Ideal.ofBits .f32 0x46DC8000#32) (Ideal.ofBits .f32 0x46DC7E00#32) fun (q : Fin 64) p => A (ix3 q 0 p) := by
  subst hA
  refine (dat2 V c).arrAt_eq_of_covers 1 _ (by decide +kernel) fun t hf y => ?_
  blk_simp
  rw [after2_1]
  have e : y = ix2 0 0 := by
    funext k
    fin_cases k
    · exact Subsingleton.elim (α := Fin 1) _ _
    · exact Subsingleton.elim (α := Fin 1) _ _
  refine ((congrArg _ e).trans (Region2.out_at _)).trans ?_
  exact congrArg (thr _ _) (funext fun q => funext fun p => block2 V c t q p)

/-- The reads of the fourth stage at point `t`, query `t`. -/
theorem query3 (t : Fin cfg3.N) (q : Fin 64) (hq : q.val = t.val) (ch : Fin 640) (p : Fin 441) :
    iblk3 V c 0 t (ix3 0 ch p) = V c main_v3_1 (ix3 q ch p) := by
  blk_ext [iblk3, idx3 t]

theorem support3 (t : Fin cfg3.N) (w : Fin 5) (ch : Fin 640) (p : Fin 441) :
    iblk3 V c 1 t (ix3 w ch p) = V c main_v2_1 (ix3 w ch p) := by
  blk_ext [iblk3, idx3 t]

theorem average3 (t : Fin cfg3.N) (q : Fin 64) (hq : q.val = t.val) (p : Fin 441) :
    iblk3 V c 2 t (ix3 0 0 p) = V c main_v3_0 (ix3 q 0 p) := by
  blk_ext [iblk3, idx3 t]

theorem threshold3 (t : Fin cfg3.N) : iblk3 V c 3 t (ix2 0 0) = V c main_v4 (ix2 0 0) := by
  blk_ext [iblk3, idx3 t]

/-- The scores after the fourth stage. -/
theorem scores (N : Vec Ideal S64x640x441 .bf16) (hN : V c main_v3_1 = N) (M : Vec Ideal S5x640x441 .bf16) (hM : V c main_v2_1 = M)
    (A : Vec Ideal S64x1x441 .f32) (hA : V c main_v3_0 = A) (T : Vec Ideal S1x1 .f32) (hT : V c main_v4 = T) :
    (dat3 V c).arrAt 4 cfg3.N = fun i : S64x1x5.Idx => ∑ p, keepThree fun r =>
      Region3.prods (fun ch p => N (ix3 (i 0) ch p) * mask (A (ix3 (i 0) 0 p)) (T (ix2 0 0))) (fun ch r => M (ix3 (i 2) ch r)) p r := by
  subst hN hM hA hT
  refine (dat3 V c).arrAt_eq_of_covers 4 _ (by decide +kernel) fun t hf y => ?_
  blk_simp
  rw [after3_4]
  have h0 : (y 0).val < 1 := (y 0).isLt
  have e0 : ((win3_4.blk t).view.emb y 0).val = t.val := by blk_simp [idx3 t]
  have e2 : (win3_4.blk t).view.emb y 2 = y 2 := Fin.ext (by blk_simp [idx3 t])
  have e : y = ix3 0 0 (y 2) := by
    funext k
    fin_cases k
    · exact Subsingleton.elim (α := Fin 1) _ _
    · exact Subsingleton.elim (α := Fin 1) _ _
    · rfl
  refine ((congrArg _ e).trans (Region3.out_at _ _ _ _ _)).trans ?_
  rw [e2]
  refine Finset.sum_congr rfl fun p _ => congrArg keepThree (funext fun r => ?_)
  refine congrArg₂ (Region3.prods · · p r) (funext fun ch => funext fun p => ?_) (funext fun ch => funext fun r => support3 V c t _ ch r)
  exact congrArg₂ (· * ·) (query3 V c t _ e0 ch p) (congrArg₂ mask (average3 V c t _ e0 p) (threshold3 V c t))

end Cert.Dn4.Blocks

end
-- ==== Proof.KernelOut.lean ====
/- The kernel's result array, from the launch memory through its four stages. -/
module

public import proofs.«01_k».proof.Proof.Blocks
public import proofs.«01_k».proof.Proof.Top3

@[expose] public section

set_option maxRecDepth 16384

noncomputable section

namespace Cert.Dn4.Kernel

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- The query images over channel and position. -/
def xq (q : Fin 64) (ch : Fin 640) (p : Fin 441) : EReal :=
  (show FVec Ideal S64x640x21x21 .f32 from m ((c : Thread nD τ).loc main_arg0)) (ix4 q ch ⟨p.val / 21, by omega⟩ ⟨p.val % 21, by omega⟩)

/-- The support images over channel and position. -/
def xs (w : Fin 5) (ch : Fin 640) (p : Fin 441) : EReal :=
  (show FVec Ideal S5x640x21x21 .f32 from m ((c : Thread nD τ).loc main_arg1)) (ix4 w ch ⟨p.val / 21, by omega⟩ ⟨p.val % 21, by omega⟩)

theorem entry_queries : V1 m ρ c main_v0 = fun i : S64x640x441.Idx => xq m c (i 0) (i 1) (i 2) := by
  have h : V1 m ρ c main_v0 = shapeCast S64x640x441 (show FVec Ideal S64x640x21x21 .f32 from m ((c : Thread nD τ).loc main_arg0)) shapeCasts_S64x640x21x21_S64x640x441 := by
    show StableHlo.after hostOps0 (W0 m ρ c) (Proc.devRef .tc main_v0) = _
    after_results
    rfl
  rw [h]
  funext i
  unfold xq
  pointwise

theorem entry_supports : V1 m ρ c main_v1 = fun i : S5x640x441.Idx => xs m c (i 0) (i 1) (i 2) := by
  have h : V1 m ρ c main_v1 = shapeCast S5x640x441 (show FVec Ideal S5x640x21x21 .f32 from m ((c : Thread nD τ).loc main_arg1)) shapeCasts_S5x640x21x21_S5x640x441 := by
    show StableHlo.after hostOps0 (W0 m ρ c) (Proc.devRef .tc main_v1) = _
    after_results
    rfl
  rw [h]
  funext i
  unfold xs
  pointwise

theorem exit_scores (q : Fin 64) (w : Fin 5) :
    (show FVec Ideal S64x5 .f32 from W6 m ρ c (Proc.devRef .tc main_v6)) (ix2 q w)
      = (show FVec Ideal S64x1x5 .f32 from W5 m ρ c (Proc.devRef .tc main_v5)) (ix3 q 0 w) := by
  have h : W6 m ρ c (Proc.devRef .tc main_v6) = shapeCast S64x5 (show FVec Ideal S64x1x5 .f32 from W5 m ρ c (Proc.devRef .tc main_v5)) shapeCasts_S64x1x5_S64x5 := by
    show StableHlo.after hostOps4 (W5 m ρ c) (Proc.devRef .tc main_v6) = _
    after_results
    rfl
  rw [h]
  pointwise

section

variable (hq : ∀ q p, Long fun ch => xq m c q ch p) (hs : ∀ w p, Long fun ch => xs m c w ch p)

include hs in
theorem masked2 : V2 m ρ c main_v2_0 = fun i : S5x640x441.Idx => support (xs m c) (i 0) (i 1) (i 2) :=
  (W2_arr m ρ c 1).trans (Blocks.masked (V1 m ρ) c _ (entry_supports m ρ c) hs)

include hs in
theorem masked4 : V4 m ρ c main_v2_1 = fun i : S5x640x441.Idx => support (xs m c) (i 0) (i 1) (i 2) :=
  (W4_of m ρ c main_v2_1 (by decide)).trans <| (W3_of m ρ c main_v2_1 (by decide)).trans <|
    (W2_arr m ρ c 2).trans (Blocks.masked_narrow (V1 m ρ) c _ (entry_supports m ρ c) hs)

theorem queries2 : V2 m ρ c main_v0 = fun i : S64x640x441.Idx => xq m c (i 0) (i 1) (i 2) :=
  (W2_of m ρ c main_v0 (by decide)).trans (entry_queries m ρ c)

include hq in
theorem scaled4 : V4 m ρ c main_v3_1 = fun i : S64x640x441.Idx => unitVec (fun ch => xq m c (i 0) ch (i 2)) (i 1) :=
  (W4_of m ρ c main_v3_1 (by decide)).trans <| (W3_arr m ρ c 3).trans (Blocks.scaled (V2 m ρ) c _ (queries2 m ρ c) hq)

include hq hs in
theorem averages3 : V3 m ρ c main_v3_0 = fun i : S64x1x441.Idx => queryAgg (xq m c (i 0)) (support (xs m c)) (i 2) := by
  refine (W3_arr m ρ c 2).trans ((Blocks.averages (V2 m ρ) c _ (queries2 m ρ c) hq _ (masked2 m ρ c hs)).trans ?_)
  funext i
  refine congrArg₂ (queryAgg · · (i 2)) ?_ ?_
  · rfl
  · rfl

include hq hs in
theorem averages4 : V4 m ρ c main_v3_0 = fun i : S64x1x441.Idx => queryAgg (xq m c (i 0)) (support (xs m c)) (i 2) :=
  (W4_of m ρ c main_v3_0 (by decide)).trans (averages3 m ρ c hq hs)

include hq hs in
theorem threshold4 : V4 m ρ c main_v4 = fun _ : S1x1.Idx =>
    thr (Ideal.ofBits .f32 0x46DC8000#32) (Ideal.ofBits .f32 0x46DC7E00#32) fun q => queryAgg (xq m c q) (support (xs m c)) := by
  refine (W4_arr m ρ c 1).trans ((Blocks.threshold (V3 m ρ) c _ (averages3 m ρ c hq hs)).trans ?_)
  funext i
  refine congrArg (thr _ _) ?_
  rfl

include hq hs in
/-- The kernel's result is the score of the specification. -/
theorem out_at (q : Fin 64) (w : Fin 5) :
    (show FVec Ideal S64x5 .f32 from W6 m ρ c (Proc.devRef .tc main_v6)) (ix2 q w) = score (xq m c) (xs m c) q w := by
  rw [exit_scores]
  have h := (W5_arr m ρ c 4).trans (Blocks.scores (V4 m ρ) c _ (scaled4 m ρ c hq) _ (masked4 m ρ c hs) _ (averages4 m ρ c hq hs)
    _ (threshold4 m ρ c hq hs))
  exact congrFun h (ix3 q 0 w)

end

end Cert.Dn4.Kernel

end
-- ==== Proof.KernelRun.lean ====
/- The kernel's run, with its result array read off the last boundary of its stages. -/
module

public import proofs.«01_k».proof.Proof.KernelOut

@[expose] public section

set_option maxRecDepth 16384

noncomputable section

namespace Cert.Dn4.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run ends with the result array at the last boundary's contents and the arguments as launched. -/
theorem run : θ_run (defs (F := Ideal)) (onTc (τ := τ) (main (F := Ideal))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v6 (by decide)), (h c _ (mem_uc main_arg0 (by decide))).trans (W6_main_arg0 m ρ c),
        (h c _ (mem_uc main_arg1 (by decide))).trans (W6_main_arg1 m ρ c)⟩)

end Cert.Dn4.Kernel

end
-- ==== Proof.Norms.lean ====
/- The precondition, read position by position: every descriptor's norm is at least the floor. -/
module

public import proofs.«01_k».proof.Proof.Unit
public import proofs.«01_k».proof.Pre_norms_at_least_eps
public import Idealize.ShloMosaic.Lib.Pointwise
public import Idealize.ShloMosaic.Lib.Decide

@[expose] public section

set_option maxRecDepth 16384

noncomputable section

namespace Cert.Dn4.Norms

open Cert.Pre_norms_at_least_eps
open Idealize.ShloMosaic

/-- The shape relations the precondition's operations take. -/
instance facts : Cert.Pre_norms_at_least_eps.Facts where
  reducesTo_S64x640x21x21_S64x21x21_d1 := by decide
  h_S_ := by decide
  reducesTo_S5x640x21x21_S5x21x21_d1 := by decide
  bcast_S_S64x21x21 := by decide
  bcast_S_S5x21x21 := by decide

variable (a : FVec Ideal S64x640x21x21 .f32) (b : FVec Ideal S5x640x21x21 .f32)

/-- The queries' bit at a position: the norm over the channels against the floor. -/
theorem queries_at (q : Fin 64) (y x : Fin 21) :
    (fn (F := Ideal) a b).1 (ix3 q y x) = Ideal.cmp .oge (nrm fun c => a (ix4 q c y x)) (Ideal.ofBits .f32 0x0DA24260#32) := by
  unfold fn nrm ssq
  pointwise

/-- The supports' bit at a position. -/
theorem supports_at (w : Fin 5) (y x : Fin 21) :
    (fn (F := Ideal) a b).2 (ix3 w y x) = Ideal.cmp .oge (nrm fun c => b (ix4 w c y x)) (Ideal.ofBits .f32 0x0DA24260#32) := by
  unfold fn nrm ssq
  pointwise

theorem queries_long (h : (fn (F := Ideal) a b).1 = fun _ => 1#1) (q : Fin 64) (y x : Fin 21) :
    Long fun c => a (ix4 q c y x) :=
  (Ideal.cmp_oge_eq_one _ _).mp ((queries_at a b q y x).symm.trans (congrFun h _))

theorem supports_long (h : (fn (F := Ideal) a b).2 = fun _ => 1#1) (w : Fin 5) (y x : Fin 21) :
    Long fun c => b (ix4 w c y x) :=
  (Ideal.cmp_oge_eq_one _ _).mp ((supports_at a b w y x).symm.trans (congrFun h _))

end Cert.Dn4.Norms

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.ReferenceOut
public import proofs.«01_k».proof.Proof.KernelRun
public import proofs.«01_k».proof.Proof.Norms
public import Idealize.ShloMosaic.Adequacy
public import Idealize.ShloMosaic.Init

@[expose] public section

noncomputable section

namespace Cert.Proof

open Idealize.ShloMosaic Idealize.SL.Sem Idealize.ShloMosaic.StableHlo

/-- The reference's run, read at its two arguments and at the counters (it declares no semaphore). -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array, index by index: the specification's scores of its argument arrays. -/
theorem kernel_scores (m : (ℓ : Loc Cert.KernelIdeal.nD Cert.KernelIdeal.τ Cert.KernelIdeal.sig) → Buf (Elt Ideal) ℓ)
    (g : Dev Cert.KernelIdeal.nD → PrngReg) (c : Dev Cert.KernelIdeal.nD)
    (hq : ∀ q p, Cert.Dn4.Long fun ch => Cert.Dn4.Kernel.xq m c q ch p) (hs : ∀ w p, Cert.Dn4.Long fun ch => Cert.Dn4.Kernel.xs m c w ch p) :
    (show FVec Ideal Cert.KernelIdeal.S64x5 .f32 from Cert.KernelIdeal.Gen.W6 m g c (Proc.devRef .tc Cert.KernelIdeal.main_v6))
      = fun i => Cert.Dn4.score (Cert.Dn4.Kernel.xq m c) (Cert.Dn4.Kernel.xs m c) (i 0) (i 1) := by
  funext i
  obtain ⟨q, w, rfl⟩ : ∃ (q : Fin 64) (w : Fin 5), i = ix2 q w := ⟨i 0, i 1, by funext a; fin_cases a <;> rfl⟩
  exact Cert.Dn4.Kernel.out_at m g c hq hs q w

open Cert.ReferenceIdeal Cert.ReferenceIdeal.Gen Cert.ReferenceIdeal.Value in
/-- The reference's result array, index by index: the specification's scores of its argument arrays. -/
theorem reference_scores (V0 : Valuation τ sig (Elt Ideal)) (hs : ∀ w p, Cert.Dn4.Long fun c => Cert.Dn4.Ref.xs V0 w c p)
    (hq : ∀ q p, Cert.Dn4.Long fun c => Cert.Dn4.Ref.xq V0 q c p) :
    Host.reduceAdd (F := Ideal) (Host.reduceAdd (F := Ideal) ((Host.topK S64x5x441x3 3 (FloatOps.cmpfTotal (F := Ideal) (φ := .f32) .gt)
        (res_main_v108 V0) sliceFits_S64x5x441x441_S64x5x441x3).1) (constant S_ .f32 0x00000000#32) reducesTo_S64x5x441x3_S64x5x441_d3 h_S_)
        (constant S_ .f32 0x00000000#32) reducesTo_S64x5x441_S64x5_d2 h_S_
      = fun i => Cert.Dn4.score (Cert.Dn4.Ref.xq V0) (Cert.Dn4.Ref.xs V0) (i 0) (i 1) := by
  funext i
  obtain ⟨q, w, rfl⟩ : ∃ (q : Fin 64) (w : Fin 5), i = ix2 q w := ⟨i 0, i 1, by funext a; fin_cases a <;> rfl⟩
  exact Cert.Dn4.Ref.out_at V0 hs hq q w

/-- Equal results from equal arguments: both arrays are the specification's scores of the argument arrays. -/
theorem scores_agree : Cert.algebraic_KernelIdeal_ReferenceIdeal_pre_norms_at_least_eps (hKernelIdeal := Cert.KernelIdeal.Gen.facts)
    (hReferenceIdeal := Cert.ReferenceIdeal.Gen.facts) (hPre_norms_at_least_eps := Cert.Dn4.Norms.facts) := by
  intro m g m' g' hpre hargs
  refine ⟨fun c => Cert.KernelIdeal.Gen.W6 m g c (Proc.devRef .tc Cert.KernelIdeal.main_v6), Cert.Dn4.Kernel.run m g, ?_⟩
  refine (θ_run Cert.ReferenceIdeal.defs _ _).mono (fun r h c => ⟨(h c).1.trans ?_, (h c).2⟩)
    (Cert.ReferenceIdeal.Value.run (F := Ideal) m' g')
  have hq : ∀ q p, Cert.Dn4.Long fun ch => Cert.Dn4.Kernel.xq m c q ch p := fun q p =>
    Cert.Dn4.Norms.queries_long _ _ (hpre c).1 q _ _
  have hs : ∀ w p, Cert.Dn4.Long fun ch => Cert.Dn4.Kernel.xs m c w ch p := fun w p =>
    Cert.Dn4.Norms.supports_long _ _ (hpre c).2 w _ _
  have eq : Cert.Dn4.Ref.xq (launchContents m' c) = Cert.Dn4.Kernel.xq m c := by
    funext q ch p
    exact congrFun (hargs c).1 _
  have es : Cert.Dn4.Ref.xs (launchContents m' c) = Cert.Dn4.Kernel.xs m c := by
    funext w ch p
    exact congrFun (hargs c).2 _
  refine (reference_scores (launchContents m' c) (es ▸ hs) (eq ▸ hq)).trans ?_
  rw [eq, es]
  exact (kernel_scores m g c hq hs).symm

theorem claim : Cert.Claim :=
  ⟨Cert.Kernel.Gen.facts, Cert.KernelIdeal.Gen.facts, Cert.ReferenceIdeal.Gen.facts, Cert.Dn4.Norms.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, scores_agree⟩

end Cert.Proof

end
